-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x384x4096 : Shape := ⟨3, ![1, 384, 4096]⟩
abbrev S4096 : Shape := ⟨1, ![4096]⟩
abbrev S4096x5504 : Shape := ⟨2, ![4096, 5504]⟩
abbrev S5504 : Shape := ⟨1, ![5504]⟩
abbrev S1x384x5504 : Shape := ⟨3, ![1, 384, 5504]⟩
abbrev S384x4096 : Shape := ⟨2, ![384, 4096]⟩
abbrev S1x4096 : Shape := ⟨2, ![1, 4096]⟩
abbrev S1x5504 : Shape := ⟨2, ![1, 5504]⟩
abbrev S384x5504 : Shape := ⟨2, ![384, 5504]⟩
abbrev S1x384 : Shape := ⟨2, ![1, 384]⟩
abbrev S384x128 : Shape := ⟨2, ![384, 128]⟩
abbrev S3 : Shape := ⟨1, ![3]⟩
abbrev S4 : Shape := ⟨1, ![4]⟩
abbrev S5 : Shape := ⟨1, ![5]⟩
abbrev S1 : Shape := ⟨1, ![1]⟩
abbrev S_ : Shape := ⟨0, ![]⟩
abbrev S128x4096 : Shape := ⟨2, ![128, 4096]⟩
abbrev S4096x512 : Shape := ⟨2, ![4096, 512]⟩
abbrev S384x512 : Shape := ⟨2, ![384, 512]⟩
abbrev S32x4096 : Shape := ⟨2, ![32, 4096]⟩
abbrev S32 : Shape := ⟨1, ![32]⟩
abbrev S32x1 : Shape := ⟨2, ![32, 1]⟩
abbrev S32x128 : Shape := ⟨2, ![32, 128]⟩
abbrev S128x128 : Shape := ⟨2, ![128, 128]⟩
abbrev S1x128 : Shape := ⟨2, ![1, 128]⟩
abbrev S4096x1024 : Shape := ⟨2, ![4096, 1024]⟩
abbrev S384x1024 : Shape := ⟨2, ![384, 1024]⟩
abbrev S4096x2048 : Shape := ⟨2, ![4096, 2048]⟩
abbrev S384x2048 : Shape := ⟨2, ![384, 2048]⟩
abbrev S4096x1536 : Shape := ⟨2, ![4096, 1536]⟩
abbrev S384x1536 : Shape := ⟨2, ![384, 1536]⟩
abbrev S4096x384 : Shape := ⟨2, ![4096, 384]⟩
abbrev S384x384 : Shape := ⟨2, ![384, 384]⟩
abbrev S1024x512 : Shape := ⟨2, ![1024, 512]⟩
abbrev S1x512 : Shape := ⟨2, ![1, 512]⟩
abbrev S1024x384 : Shape := ⟨2, ![1024, 384]⟩
abbrev S1x384x1 : Shape := ⟨3, ![1, 384, 1]⟩

abbrev nBuf : Space → Nat
  | .hbm => 15
  | .vmem => 10
  | .smem => 0
  | _ => 0

abbrev bufTy : (tb : Table) → Fin (tcTables nBuf tb) → BufTy
  | .hbm, ⟨0, _⟩ => ⟨S1x384x4096, .bf16⟩
  | .hbm, ⟨1, _⟩ => ⟨S4096, .f32⟩
  | .hbm, ⟨2, _⟩ => ⟨S4096x5504, .i8⟩
  | .hbm, ⟨3, _⟩ => ⟨S5504, .f32⟩
  | .hbm, ⟨4, _⟩ => ⟨S1x384x5504, .bf16⟩
  | .hbm, ⟨5, _⟩ => ⟨S384x4096, .bf16⟩
  | .hbm, ⟨6, _⟩ => ⟨S1x4096, .f32⟩
  | .hbm, ⟨7, _⟩ => ⟨S1x5504, .f32⟩
  | .hbm, ⟨8, _⟩ => ⟨S384x5504, .bf16⟩
  | .hbm, ⟨9, _⟩ => ⟨S384x5504, .bf16⟩
  | .hbm, ⟨10, _⟩ => ⟨S384x4096, .i8⟩
  | .hbm, ⟨11, _⟩ => ⟨S1x384, .f32⟩
  | .hbm, ⟨12, _⟩ => ⟨S1x384x5504, .bf16⟩
  | .hbm, ⟨13, _⟩ => ⟨S1x384x4096, .i8⟩
  | .hbm, ⟨14, _⟩ => ⟨S1x384x1, .f32⟩
  | .local _ .vmem, ⟨0, _⟩ => ⟨S384x4096, .bf16⟩
  | .local _ .vmem, ⟨1, _⟩ => ⟨S1x4096, .f32⟩
  | .local _ .vmem, ⟨2, _⟩ => ⟨S4096x5504, .i8⟩
  | .local _ .vmem, ⟨3, _⟩ => ⟨S1x5504, .f32⟩
  | .local _ .vmem, ⟨4, _⟩ => ⟨S384x5504, .bf16⟩
  | .local _ .vmem, ⟨5, _⟩ => ⟨S384x5504, .bf16⟩
  | .local _ .vmem, ⟨6, _⟩ => ⟨S384x4096, .i8⟩
  | .local _ .vmem, ⟨7, _⟩ => ⟨S384x4096, .bf16⟩
  | .local _ .vmem, ⟨8, _⟩ => ⟨S384x128, .f32⟩
  | .local _ .vmem, ⟨9, _⟩ => ⟨S1x384, .f32⟩
  | _, _ => ⟨S1x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩

abbrev nD : Nat := 1
abbrev τ : Topo := Topo.v7x

variable {F : FTy → Type} [FloatOps F]

abbrev grid0 : Pipeline.Grid := .none
-- ==== ReferenceIdeal.lean ====
abbrev S1x384x4096 : Shape := ⟨3, ![1, 384, 4096]⟩
abbrev S4096 : Shape := ⟨1, ![4096]⟩
abbrev S4096x5504 : Shape := ⟨2, ![4096, 5504]⟩
abbrev S5504 : Shape := ⟨1, ![5504]⟩
abbrev S1x384x5504 : Shape := ⟨3, ![1, 384, 5504]⟩
abbrev S384x4096 : Shape := ⟨2, ![384, 4096]⟩
abbrev S1x4096 : Shape := ⟨2, ![1, 4096]⟩
abbrev S1x5504 : Shape := ⟨2, ![1, 5504]⟩
abbrev S384x5504 : Shape := ⟨2, ![384, 5504]⟩
abbrev S384x1 : Shape := ⟨2, ![384, 1]⟩
abbrev S384 : Shape := ⟨1, ![384]⟩
abbrev S384x4096x1 : Shape := ⟨3, ![384, 4096, 1]⟩
abbrev S1x4096x5504 : Shape := ⟨3, ![1, 4096, 5504]⟩
abbrev S384x4096x5504 : Shape := ⟨3, ![384, 4096, 5504]⟩
abbrev S1x384x1 : Shape := ⟨3, ![1, 384, 1]⟩

abbrev nBuf : Space → Nat
  | .hbm => 15
  | .vmem => 8
  | .smem => 0
  | _ => 0

abbrev bufTy : (tb : Table) → Fin (tcTables nBuf tb) → BufTy
  | .hbm, ⟨0, _⟩ => ⟨S1x384x4096, .bf16⟩
  | .hbm, ⟨1, _⟩ => ⟨S4096, .f32⟩
  | .hbm, ⟨2, _⟩ => ⟨S4096x5504, .i8⟩
  | .hbm, ⟨3, _⟩ => ⟨S5504, .f32⟩
  | .hbm, ⟨4, _⟩ => ⟨S1x384x5504, .bf16⟩
  | .hbm, ⟨5, _⟩ => ⟨S384x4096, .bf16⟩
  | .hbm, ⟨6, _⟩ => ⟨S1x4096, .f32⟩
  | .hbm, ⟨7, _⟩ => ⟨S1x5504, .f32⟩
  | .hbm, ⟨8, _⟩ => ⟨S384x5504, .bf16⟩
  | .hbm, ⟨9, _⟩ => ⟨S384x5504, .bf16⟩
  | .hbm, ⟨10, _⟩ => ⟨S384x4096, .i8⟩
  | .hbm, ⟨11, _⟩ => ⟨S384x1, .f32⟩
  | .hbm, ⟨12, _⟩ => ⟨S1x384x5504, .bf16⟩
  | .hbm, ⟨13, _⟩ => ⟨S1x384x4096, .i8⟩
  | .hbm, ⟨14, _⟩ => ⟨S1x384x1, .f32⟩
  | .local _ .vmem, ⟨0, _⟩ => ⟨S384x4096, .bf16⟩
  | .local _ .vmem, ⟨1, _⟩ => ⟨S1x4096, .f32⟩
  | .local _ .vmem, ⟨2, _⟩ => ⟨S4096x5504, .i8⟩
  | .local _ .vmem, ⟨3, _⟩ => ⟨S1x5504, .f32⟩
  | .local _ .vmem, ⟨4, _⟩ => ⟨S384x5504, .bf16⟩
  | .local _ .vmem, ⟨5, _⟩ => ⟨S384x5504, .bf16⟩
  | .local _ .vmem, ⟨6, _⟩ => ⟨S384x4096, .i8⟩
  | .local _ .vmem, ⟨7, _⟩ => ⟨S384x1, .f32⟩
  | _, _ => ⟨S1x384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S384x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x5504 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x5504 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x5504 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384x4096 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S384x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Body.lean ====
module

public import proofs.«01_k».proof.Proof.Gen.Kernel.Skeleton
public import proofs.«01_k».proof.Proof.Gen.Kernel.Points
public import Idealize.ShloMosaic.Lib.Tactic
public import Idealize.ShloMosaic.Lib.Pipeline.FrameBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 1000000 in
set_option sl_exec.dmaWindow true in
noncomputable def kernelRun (c : Dev nD) (f0 : Bf (F := F) c (Memref.whole main_v0)) (f1 : Bf (F := F) c (Memref.whole main_v1)) (f2 : Bf (F := F) c (Memref.whole main_arg2)) (f3 : Bf (F := F) c (Memref.whole main_v2)) (f4 : Bf (F := F) c (Memref.whole main_v3)) (f5 : Bf (F := F) c (Memref.whole main_v4_0)) (f6 : Bf (F := F) c (Memref.whole main_v4_1)) (f7 : Bf (F := F) c (Memref.whole main_v4_2)) (s0 : Bf (F := F) c (Memref.whole cc0_scratch0)) (s1 : Bf (F := F) c (Memref.whole cc0_scratch1)) (s2 : Bf (F := F) c (Memref.whole cc0_scratch2)) (s3 : Bf (F := F) c (Memref.whole cc0_scratch3)) (s4 : Bf (F := F) c (Memref.whole cc0_scratch4)) (s5 : Bf (F := F) c (Memref.whole cc0_scratch5)) (s6 : Bf (F := F) c (Memref.whole cc0_scratch6)) (s7 : Bf (F := F) c (Memref.whole cc0_scratch7)) (s8 : Bf (F := F) c (Memref.whole cc0_scratch8)) (s9 : Bf (F := F) c (Memref.whole cc0_scratch9)) :
    { Wt : Bf (F := F) c (Memref.whole main_v4_0) × Bf (F := F) c (Memref.whole main_v4_1) × Bf (F := F) c (Memref.whole main_v4_2) //
      ∀ (W : Waits sig Unit) (Q : PUnit → sProp 𝕄),
    iprop(pt c (Memref.whole main_v0) f0 ∗ pt c (Memref.whole main_v1) f1 ∗ pt c (Memref.whole main_arg2) f2 ∗ pt c (Memref.whole main_v2) f3 ∗ pt c (Memref.whole main_v3) f4 ∗ pt c (Memref.whole main_v4_0) f5 ∗ pt c (Memref.whole main_v4_1) f6 ∗ pt c (Memref.whole main_v4_2) f7 ∗ pt c (Memref.whole cc0_scratch0) s0 ∗ pt c (Memref.whole cc0_scratch1) s1 ∗ pt c (Memref.whole cc0_scratch2) s2 ∗ pt c (Memref.whole cc0_scratch3) s3 ∗ pt c (Memref.whole cc0_scratch4) s4 ∗ pt c (Memref.whole cc0_scratch5) s5 ∗ pt c (Memref.whole cc0_scratch6) s6 ∗ pt c (Memref.whole cc0_scratch7) s7 ∗ pt c (Memref.whole cc0_scratch8) s8 ∗ pt c (Memref.whole cc0_scratch9) s9 ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ owes (c : Thread nD τ) 0 W
      ∗ (iprop(pt c (Memref.whole main_v0) f0 ∗ pt c (Memref.whole main_v1) f1 ∗ pt c (Memref.whole main_arg2) f2 ∗ pt c (Memref.whole main_v2) f3 ∗ pt c (Memref.whole main_v3) f4 ∗ pt c (Memref.whole main_v4_0) Wt.1 ∗ pt c (Memref.whole main_v4_1) Wt.2.1 ∗ pt c (Memref.whole main_v4_2) Wt.2.2 ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ (∃ W, owes (c : Thread nD τ) 0 W)) -∗ Q ⟨⟩))
    ⊢ wp frame (wpE (defs₀ (F := F)) Variants.none c none) Set.univ
        (cc0__body (Memref.whole main_v0) (Memref.isWhole_whole _) (Memref.whole main_v1) (Memref.isWhole_whole _) (Memref.whole main_arg2) (Memref.isWhole_whole _) (Memref.whole main_v2) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14) Q } := by
  refine ⟨⟨?_, ?_, ?_⟩, fun W Q => ?run⟩
  case run =>
  iintro ⟨H0, H1, H2, H3, H4, H5, H6, H7, S0, S1, S2, S3, S4, S5, S6, S7, S8, S9, D0, D1, D2, D3, D4, D5, D6, D7, D8, D9, D10, D11, D12, D13, D14, D15, D16, D17, D18, D19, D20, D21, HO, Hk⟩
  sl_exec_parts!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  isplitl [D12]; · iexact D12
  isplitl [D13]; · iexact D13
  isplitl [D14]; · iexact D14
  isplitl [D15]; · iexact D15
  isplitl [D16]; · iexact D16
  isplitl [D17]; · iexact D17
  isplitl [D18]; · iexact D18
  isplitl [D19]; · iexact D19
  isplitl [D20]; · iexact D20
  isplitl [D21]; · iexact D21
  iexists _; iexact HO

end Cert.Kernel.Hand

end
-- ==== Proof.Run.lean ====
module

public import proofs.«01_k».proof.Proof.Gen.Kernel.Launch
public import proofs.«01_k».proof.Proof.Gen.Kernel.Frame
public import proofs.«01_k».proof.Proof.Body
public import Idealize.ShloMosaic.Lib.Pipeline.FrameSuffix

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers the kernel's copies read and leave as they were. -/
def H0 : Finset (Ref sig .tc) := {main_v0, main_v1, main_arg2, main_v2, main_v3}
/-- The three results, written by the kernel's own copies. -/
def R0 : Finset (Ref sig .tc) := {main_v4_0, main_v4_1, main_v4_2}
/-- The buffers the host lines after the kernel write. -/
def T0 : Finset (Ref sig .tc) := {main_v5, main_v6, main_v7}
theorem H0_sub : H0 ⊆ Pipeline.restRefs sig cfg0.spec := by decide
theorem R0_sub : R0 ⊆ Pipeline.restRefs sig cfg0.spec \ H0 := by decide

/-- The kernel's DMA semaphores, 22 of them. -/
abbrev osem0 : Fin 22 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21] : Fin 22 → SemLoc sig) j
theorem ownSemFacts0 : Pipeline.OwnSemFacts cfg0.spec osem0 := by decide
/-- The semaphores' counters at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c osem0 [0, 1, 2, 3, 4, 5, 6, 7, 8, 9, 10, 11, 12, 13, 14, 15, 16, 17, 18, 19, 20, 21] (by decide) (by decide)]; rfl
/-- The buffers read, one by one. -/
theorem hbmPts0_eq (c : Dev nD) :
    (bigSep H0 (fun b => ((c : Thread nD τ).loc b) ↦{fullShare} V m c b) : sProp 𝕄)
      = iprop(pt c (Memref.whole main_v0) (V m c main_v0) ∗ pt c (Memref.whole main_v1) (V m c main_v1) ∗ pt c (Memref.whole main_arg2) (V m c main_arg2) ∗ pt c (Memref.whole main_v2) (V m c main_v2) ∗ pt c (Memref.whole main_v3) (V m c main_v3)) := by
  rw [BI.bigSep_eq_bigSepL_of_eq [main_v0, main_v1, main_arg2, main_v2, main_v3] (by decide) (by decide)]; rfl
/-- The results, each whole at some contents. -/
theorem ownedPts0_eq (c : Dev nD) :
    (Pipeline.owned R0 c : sProp 𝕄) = iprop((∃ f, pt c (Memref.whole main_v4_0) f) ∗ (∃ f, pt c (Memref.whole main_v4_1) f) ∗ (∃ f, pt c (Memref.whole main_v4_2) f)) := by
  unfold Pipeline.owned; rw [BI.bigSep_eq_bigSepL_of_eq [main_v4_0, main_v4_1, main_v4_2] (by decide) (by decide)]; rfl

/-- The invariant around the kernel's one point, buffer by buffer. -/
theorem PhiDR0_eq (c : Dev nD) :
    (Pipeline.ΦDR osem0 cfg0.spec H0 R0 (V m) c : sProp 𝕄)
      = iprop(iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)
          ∗ iprop(pt c (Memref.whole main_v0) (V m c main_v0) ∗ pt c (Memref.whole main_v1) (V m c main_v1) ∗ pt c (Memref.whole main_arg2) (V m c main_arg2) ∗ pt c (Memref.whole main_v2) (V m c main_v2) ∗ pt c (Memref.whole main_v3) (V m c main_v3))
          ∗ iprop((∃ f, pt c (Memref.whole main_v4_0) f) ∗ (∃ f, pt c (Memref.whole main_v4_1) f) ∗ (∃ f, pt c (Memref.whole main_v4_2) f))) := by
  rw [Pipeline.ΦDR_eq, scopedRest0_eq, ownSems00_eq, hbmPts0_eq, ownedPts0_eq]; try rfl

/-- The proof data of the one pipeline: no windows, the invariant above, nothing owed. -/
def dats (_ : Fin 1) (c : Dev nD) : Dat τ (Elt F) Unit ℕ (Pipeline.UD sig nD τ) ℕ cfg0 c where
  A w := w.elim0
  after w := w.elim0
  Φ _ := Pipeline.ΦDR osem0 cfg0.spec H0 R0 (V m) c
  q _ := fullShare
  owed _ := 0

/-- The body at its point: from the invariant back to the invariant. -/
theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t) (fun _ => iprop((dats m 0 c).Φ t.succ ∗ (dats m 0 c).owesAt () t.succ)) := by
  rw [show (dats m 0 c).Φ t.succ = (dats m 0 c).Φ t.castSucc from rfl]
  rw [show (dats m 0 c).Φ t.castSucc = Pipeline.ΦDR osem0 cfg0.spec H0 R0 (V m) c from rfl, PhiDR0_eq]
  unfold Dat.owesAt Pipeline.owesWithin
  rw [show (dats m 0 c).owed t.castSucc = 0 from rfl, show (dats m 0 c).owed t.succ = 0 from rfl]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩⟩, Hg, ⟨D0, D1, D2, D3, D4, D5, D6, D7, D8, D9, D10, D11, D12, D13, D14, D15, D16, D17, D18, D19, D20, D21⟩, ⟨H0, H1, H2, H3, H4⟩, ⟨⟨%g5, H5⟩, ⟨%g6, H6⟩, ⟨%g7, H7⟩⟩⟩, ⟨%W, -, HW⟩⟩
  iapply ((kernelRun c (V m c main_v0) (V m c main_v1) (V m c main_arg2) (V m c main_v2) (V m c main_v3) g5 g6 g7 s0 s1 s2 s3 s4 s5 s6 s7 s8 s9).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  isplitl [D12]; · iexact D12
  isplitl [D13]; · iexact D13
  isplitl [D14]; · iexact D14
  isplitl [D15]; · iexact D15
  isplitl [D16]; · iexact D16
  isplitl [D17]; · iexact D17
  isplitl [D18]; · iexact D18
  isplitl [D19]; · iexact D19
  isplitl [D20]; · iexact D20
  isplitl [D21]; · iexact D21
  isplitl [HW]; · iexact HW
  iintro ⟨H0, H1, H2, H3, H4, H5, H6, H7, ⟨%e0, S0⟩, ⟨%e1, S1⟩, ⟨%e2, S2⟩, ⟨%e3, S3⟩, ⟨%e4, S4⟩, ⟨%e5, S5⟩, ⟨%e6, S6⟩, ⟨%e7, S7⟩, ⟨%e8, S8⟩, ⟨%e9, S9⟩, D0, D1, D2, D3, D4, D5, D6, D7, D8, D9, D10, D11, D12, D13, D14, D15, D16, D17, D18, D19, D20, D21, ⟨%W', HW⟩⟩
  isplitl [S0 S1 S2 S3 S4 S5 S6 S7 S8 S9 Hg D0 D1 D2 D3 D4 D5 D6 D7 D8 D9 D10 D11 D12 D13 D14 D15 D16 D17 D18 D19 D20 D21 H0 H1 H2 H3 H4 H5 H6 H7]
  · isplitl [S0 S1 S2 S3 S4 S5 S6 S7 S8 S9]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      iexists _; iexact S9
    isplitl [Hg]; · iexact Hg
    isplitl [D0 D1 D2 D3 D4 D5 D6 D7 D8 D9 D10 D11 D12 D13 D14 D15 D16 D17 D18 D19 D20 D21]
    · isplitl [D0]; · iexact D0
      isplitl [D1]; · iexact D1
      isplitl [D2]; · iexact D2
      isplitl [D3]; · iexact D3
      isplitl [D4]; · iexact D4
      isplitl [D5]; · iexact D5
      isplitl [D6]; · iexact D6
      isplitl [D7]; · iexact D7
      isplitl [D8]; · iexact D8
      isplitl [D9]; · iexact D9
      isplitl [D10]; · iexact D10
      isplitl [D11]; · iexact D11
      isplitl [D12]; · iexact D12
      isplitl [D13]; · iexact D13
      isplitl [D14]; · iexact D14
      isplitl [D15]; · iexact D15
      isplitl [D16]; · iexact D16
      isplitl [D17]; · iexact D17
      isplitl [D18]; · iexact D18
      isplitl [D19]; · iexact D19
      isplitl [D20]; · iexact D20
      iexact D21
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    iexists _; iexact H7
  iexists W'; isplitr; · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  refine triple_restated (sound_body m c t) rfl ?_ fun _ => ?_
  · iintro ⟨HΦ, HO, -⟩
    isplitl [HΦ]; · iexact HΦ
    iexact HO
  · iintro ⟨HΦ, HO⟩
    isplitl [HΦ]; · iexact HΦ
    isplitl [HO]; · iexact HO
    rw [Finset.univ_eq_empty (α := Fin cfg0.W), BI.bigSep_empty]
    iempintro

/-- @main around the kernel, at this proof's algebra. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The host lines after the kernel write only the three reshaped results. -/
theorem sfx_writes : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  subst hops
  simp only [hostOps1, List.mem_cons, List.mem_nil_iff, or_false] at hop
  rcases hop with rfl | rfl | rfl
  all_goals
    rw [StableHlo.reshape_writes, Finset.mem_singleton] at hb
    rw [Proc.devRef_injective _ hb]
    decide

set_option backward.isDefEq.respectTransparency.types false in
/-- The whole program runs; everything but the results and the host lines' buffers ends as the kernel found it. -/
theorem run_main : θ_run defs (onTc (τ := τ) (main (F := F))) (s₀ m ρ) (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmainD m Variants.none) (hA := fun _ w => w.elim0)
    (hin := fun _ => .rfl) (hout := fun _ => .rfl) (hQ' := fun _ h => h)

/-- The frame: the arguments end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).2 main_arg1 (Finset.mem_sdiff.mpr ⟨Pipeline.mem_restRefs_of main_arg1 (by decide) (by decide), by decide⟩)).trans (V_main_arg1 m c), ((h.1 c).2 main_arg2 (Finset.mem_sdiff.mpr ⟨Pipeline.mem_restRefs_of main_arg2 (by decide) (by decide), by decide⟩)).trans (V_main_arg2 m c), ((h.1 c).2 main_arg3 (Finset.mem_sdiff.mpr ⟨Pipeline.mem_restRefs_of main_arg3 (by decide) (by decide), by decide⟩)).trans (V_main_arg3 m c), ((h.1 c).2 main_arg4 (Finset.mem_sdiff.mpr ⟨Pipeline.mem_restRefs_of main_arg4 (by decide) (by decide), by decide⟩)).trans (V_main_arg4 m c)⟩, h.2⟩) (run_main m ρ)

end Cert.Kernel.Hand

end
-- ==== Proof.BodyI.lean ====
module

public import proofs.«01_k».proof.Proof.Gen.KernelIdeal.Skeleton
public import proofs.«01_k».proof.Proof.Gen.KernelIdeal.Points
public import Idealize.ShloMosaic.Lib.Tactic
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 1000000 in
set_option sl_exec.dmaWindow true in
noncomputable def kernelRun (c : Dev nD) (f0 : Bf (F := F) c (Memref.whole main_v0)) (f1 : Bf (F := F) c (Memref.whole main_v1)) (f2 : Bf (F := F) c (Memref.whole main_arg2)) (f3 : Bf (F := F) c (Memref.whole main_v2)) (f4 : Bf (F := F) c (Memref.whole main_v3)) (f5 : Bf (F := F) c (Memref.whole main_v4_0)) (f6 : Bf (F := F) c (Memref.whole main_v4_1)) (f7 : Bf (F := F) c (Memref.whole main_v4_2)) (s0 : Bf (F := F) c (Memref.whole cc0_scratch0)) (s1 : Bf (F := F) c (Memref.whole cc0_scratch1)) (s2 : Bf (F := F) c (Memref.whole cc0_scratch2)) (s3 : Bf (F := F) c (Memref.whole cc0_scratch3)) (s4 : Bf (F := F) c (Memref.whole cc0_scratch4)) (s5 : Bf (F := F) c (Memref.whole cc0_scratch5)) (s6 : Bf (F := F) c (Memref.whole cc0_scratch6)) (s7 : Bf (F := F) c (Memref.whole cc0_scratch7)) (s8 : Bf (F := F) c (Memref.whole cc0_scratch8)) (s9 : Bf (F := F) c (Memref.whole cc0_scratch9)) :
    { Wt : Bf (F := F) c (Memref.whole main_v4_0) × Bf (F := F) c (Memref.whole main_v4_1) × Bf (F := F) c (Memref.whole main_v4_2) //
      ∀ (W : Waits sig Unit) (Q : PUnit → sProp 𝕄),
    iprop(pt c (Memref.whole main_v0) f0 ∗ pt c (Memref.whole main_v1) f1 ∗ pt c (Memref.whole main_arg2) f2 ∗ pt c (Memref.whole main_v2) f3 ∗ pt c (Memref.whole main_v3) f4 ∗ pt c (Memref.whole main_v4_0) f5 ∗ pt c (Memref.whole main_v4_1) f6 ∗ pt c (Memref.whole main_v4_2) f7 ∗ pt c (Memref.whole cc0_scratch0) s0 ∗ pt c (Memref.whole cc0_scratch1) s1 ∗ pt c (Memref.whole cc0_scratch2) s2 ∗ pt c (Memref.whole cc0_scratch3) s3 ∗ pt c (Memref.whole cc0_scratch4) s4 ∗ pt c (Memref.whole cc0_scratch5) s5 ∗ pt c (Memref.whole cc0_scratch6) s6 ∗ pt c (Memref.whole cc0_scratch7) s7 ∗ pt c (Memref.whole cc0_scratch8) s8 ∗ pt c (Memref.whole cc0_scratch9) s9 ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ owes (c : Thread nD τ) 0 W
      ∗ (iprop(pt c (Memref.whole main_v0) f0 ∗ pt c (Memref.whole main_v1) f1 ∗ pt c (Memref.whole main_arg2) f2 ∗ pt c (Memref.whole main_v2) f3 ∗ pt c (Memref.whole main_v3) f4 ∗ pt c (Memref.whole main_v4_0) Wt.1 ∗ pt c (Memref.whole main_v4_1) Wt.2.1 ∗ pt c (Memref.whole main_v4_2) Wt.2.2 ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ (∃ W, owes (c : Thread nD τ) 0 W)) -∗ Q ⟨⟩))
    ⊢ wp frame (wpE (defs₀ (F := F)) Variants.none c none) Set.univ
        (cc0__body (Memref.whole main_v0) (Memref.isWhole_whole _) (Memref.whole main_v1) (Memref.isWhole_whole _) (Memref.whole main_arg2) (Memref.isWhole_whole _) (Memref.whole main_v2) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14) Q } := by
  refine ⟨⟨?_, ?_, ?_⟩, fun W Q => ?run⟩
  case run =>
  iintro ⟨H0, H1, H2, H3, H4, H5, H6, H7, S0, S1, S2, S3, S4, S5, S6, S7, S8, S9, D0, D1, D2, D3, D4, D5, D6, D7, D8, D9, D10, D11, D12, D13, D14, D15, D16, D17, D18, D19, D20, D21, HO, Hk⟩
  sl_exec_parts!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  isplitl [S9]; · iexists _; iexact S9
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  isplitl [D12]; · iexact D12
  isplitl [D13]; · iexact D13
  isplitl [D14]; · iexact D14
  isplitl [D15]; · iexact D15
  isplitl [D16]; · iexact D16
  isplitl [D17]; · iexact D17
  isplitl [D18]; · iexact D18
  isplitl [D19]; · iexact D19
  isplitl [D20]; · iexact D20
  isplitl [D21]; · iexact D21
  iexists _; iexact HO

end Cert.KernelIdeal.Hand

end
-- ==== Proof.RunI.lean ====
module

public import proofs.«01_k».proof.Proof.Gen.KernelIdeal.Launch
public import proofs.«01_k».proof.Proof.Gen.KernelIdeal.Frame
public import proofs.«01_k».proof.Proof.BodyI
public import Idealize.ShloMosaic.Lib.Pipeline.FrameSuffix

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers the kernel's copies read and leave as they were. -/
def H0 : Finset (Ref sig .tc) := {main_v0, main_v1, main_arg2, main_v2, main_v3}
/-- The three results, written by the kernel's own copies. -/
def R0 : Finset (Ref sig .tc) := {main_v4_0, main_v4_1, main_v4_2}
/-- The buffers the host lines after the kernel write. -/
def T0 : Finset (Ref sig .tc) := {main_v5, main_v6, main_v7}
theorem H0_sub : H0 ⊆ Pipeline.restRefs sig cfg0.spec := by decide
theorem R0_sub : R0 ⊆ Pipeline.restRefs sig cfg0.spec \ H0 := by decide

/-- The kernel's DMA semaphores, 22 of them. -/
abbrev osem0 : Fin 22 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21] : Fin 22 → SemLoc sig) j
theorem ownSemFacts0 : Pipeline.OwnSemFacts cfg0.spec osem0 := by decide
/-- The semaphores' counters at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0) := by
  rw [Pipeline.ownSems0_eq_of_list c osem0 [0, 1, 2, 3, 4, 5, 6, 7, 8, 9, 10, 11, 12, 13, 14, 15, 16, 17, 18, 19, 20, 21] (by decide) (by decide)]; rfl
/-- The buffers read, one by one. -/
theorem hbmPts0_eq (c : Dev nD) :
    (bigSep H0 (fun b => ((c : Thread nD τ).loc b) ↦{fullShare} V m c b) : sProp 𝕄)
      = iprop(pt c (Memref.whole main_v0) (V m c main_v0) ∗ pt c (Memref.whole main_v1) (V m c main_v1) ∗ pt c (Memref.whole main_arg2) (V m c main_arg2) ∗ pt c (Memref.whole main_v2) (V m c main_v2) ∗ pt c (Memref.whole main_v3) (V m c main_v3)) := by
  rw [BI.bigSep_eq_bigSepL_of_eq [main_v0, main_v1, main_arg2, main_v2, main_v3] (by decide) (by decide)]; rfl
/-- The results, each whole at some contents. -/
theorem ownedPts0_eq (c : Dev nD) :
    (Pipeline.owned R0 c : sProp 𝕄) = iprop((∃ f, pt c (Memref.whole main_v4_0) f) ∗ (∃ f, pt c (Memref.whole main_v4_1) f) ∗ (∃ f, pt c (Memref.whole main_v4_2) f)) := by
  unfold Pipeline.owned; rw [BI.bigSep_eq_bigSepL_of_eq [main_v4_0, main_v4_1, main_v4_2] (by decide) (by decide)]; rfl

/-- The invariant around the kernel's one point, buffer by buffer. -/
theorem PhiDR0_eq (c : Dev nD) :
    (Pipeline.ΦDR osem0 cfg0.spec H0 R0 (V m) c : sProp 𝕄)
      = iprop(iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f))
          ∗ (∃ r, prngReg c r)
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)
          ∗ iprop(pt c (Memref.whole main_v0) (V m c main_v0) ∗ pt c (Memref.whole main_v1) (V m c main_v1) ∗ pt c (Memref.whole main_arg2) (V m c main_arg2) ∗ pt c (Memref.whole main_v2) (V m c main_v2) ∗ pt c (Memref.whole main_v3) (V m c main_v3))
          ∗ iprop((∃ f, pt c (Memref.whole main_v4_0) f) ∗ (∃ f, pt c (Memref.whole main_v4_1) f) ∗ (∃ f, pt c (Memref.whole main_v4_2) f))) := by
  rw [Pipeline.ΦDR_eq, scopedRest0_eq, ownSems00_eq, hbmPts0_eq, ownedPts0_eq]; try rfl

/-- The proof data of the one pipeline: no windows, the invariant above, nothing owed. -/
def dats (_ : Fin 1) (c : Dev nD) : Dat τ (Elt F) Unit ℕ (Pipeline.UD sig nD τ) ℕ cfg0 c where
  A w := w.elim0
  after w := w.elim0
  Φ _ := Pipeline.ΦDR osem0 cfg0.spec H0 R0 (V m) c
  q _ := fullShare
  owed _ := 0

/-- The body at its point: from the invariant back to the invariant. -/
theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t) (fun _ => iprop((dats m 0 c).Φ t.succ ∗ (dats m 0 c).owesAt () t.succ)) := by
  rw [show (dats m 0 c).Φ t.succ = (dats m 0 c).Φ t.castSucc from rfl]
  rw [show (dats m 0 c).Φ t.castSucc = Pipeline.ΦDR osem0 cfg0.spec H0 R0 (V m) c from rfl, PhiDR0_eq]
  unfold Dat.owesAt Pipeline.owesWithin
  rw [show (dats m 0 c).owed t.castSucc = 0 from rfl, show (dats m 0 c).owed t.succ = 0 from rfl]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩⟩, Hg, ⟨D0, D1, D2, D3, D4, D5, D6, D7, D8, D9, D10, D11, D12, D13, D14, D15, D16, D17, D18, D19, D20, D21⟩, ⟨H0, H1, H2, H3, H4⟩, ⟨⟨%g5, H5⟩, ⟨%g6, H6⟩, ⟨%g7, H7⟩⟩⟩, ⟨%W, -, HW⟩⟩
  iapply ((kernelRun c (V m c main_v0) (V m c main_v1) (V m c main_arg2) (V m c main_v2) (V m c main_v3) g5 g6 g7 s0 s1 s2 s3 s4 s5 s6 s7 s8 s9).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  isplitl [D12]; · iexact D12
  isplitl [D13]; · iexact D13
  isplitl [D14]; · iexact D14
  isplitl [D15]; · iexact D15
  isplitl [D16]; · iexact D16
  isplitl [D17]; · iexact D17
  isplitl [D18]; · iexact D18
  isplitl [D19]; · iexact D19
  isplitl [D20]; · iexact D20
  isplitl [D21]; · iexact D21
  isplitl [HW]; · iexact HW
  iintro ⟨H0, H1, H2, H3, H4, H5, H6, H7, ⟨%e0, S0⟩, ⟨%e1, S1⟩, ⟨%e2, S2⟩, ⟨%e3, S3⟩, ⟨%e4, S4⟩, ⟨%e5, S5⟩, ⟨%e6, S6⟩, ⟨%e7, S7⟩, ⟨%e8, S8⟩, ⟨%e9, S9⟩, D0, D1, D2, D3, D4, D5, D6, D7, D8, D9, D10, D11, D12, D13, D14, D15, D16, D17, D18, D19, D20, D21, ⟨%W', HW⟩⟩
  isplitl [S0 S1 S2 S3 S4 S5 S6 S7 S8 S9 Hg D0 D1 D2 D3 D4 D5 D6 D7 D8 D9 D10 D11 D12 D13 D14 D15 D16 D17 D18 D19 D20 D21 H0 H1 H2 H3 H4 H5 H6 H7]
  · isplitl [S0 S1 S2 S3 S4 S5 S6 S7 S8 S9]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      iexists _; iexact S9
    isplitl [Hg]; · iexact Hg
    isplitl [D0 D1 D2 D3 D4 D5 D6 D7 D8 D9 D10 D11 D12 D13 D14 D15 D16 D17 D18 D19 D20 D21]
    · isplitl [D0]; · iexact D0
      isplitl [D1]; · iexact D1
      isplitl [D2]; · iexact D2
      isplitl [D3]; · iexact D3
      isplitl [D4]; · iexact D4
      isplitl [D5]; · iexact D5
      isplitl [D6]; · iexact D6
      isplitl [D7]; · iexact D7
      isplitl [D8]; · iexact D8
      isplitl [D9]; · iexact D9
      isplitl [D10]; · iexact D10
      isplitl [D11]; · iexact D11
      isplitl [D12]; · iexact D12
      isplitl [D13]; · iexact D13
      isplitl [D14]; · iexact D14
      isplitl [D15]; · iexact D15
      isplitl [D16]; · iexact D16
      isplitl [D17]; · iexact D17
      isplitl [D18]; · iexact D18
      isplitl [D19]; · iexact D19
      isplitl [D20]; · iexact D20
      iexact D21
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    iexists _; iexact H7
  iexists W'; isplitr; · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  refine triple_restated (sound_body m c t) rfl ?_ fun _ => ?_
  · iintro ⟨HΦ, HO, -⟩
    isplitl [HΦ]; · iexact HΦ
    iexact HO
  · iintro ⟨HΦ, HO⟩
    isplitl [HΦ]; · iexact HΦ
    isplitl [HO]; · iexact HO
    rw [Finset.univ_eq_empty (α := Fin cfg0.W), BI.bigSep_empty]
    iempintro

/-- @main around the kernel, at this proof's algebra. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The host lines after the kernel write only the three reshaped results. -/
theorem sfx_writes : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  subst hops
  simp only [hostOps1, List.mem_cons, List.mem_nil_iff, or_false] at hop
  rcases hop with rfl | rfl | rfl
  all_goals
    rw [StableHlo.reshape_writes, Finset.mem_singleton] at hb
    rw [Proc.devRef_injective _ hb]
    decide

set_option backward.isDefEq.respectTransparency.types false in
/-- The whole program runs; everything but the results and the host lines' buffers ends as the kernel found it. -/
theorem run_main : θ_run defs (onTc (τ := τ) (main (F := F))) (s₀ m ρ) (fun r => Pipeline.FramePostR cfgs (dats m) 0 (R0 ∪ T0) (V m) r ∧ r.2.sem = fun _ => 0) :=
  Pipeline.θ_run_frame_dmaR_around (Q' := _) cfgs (dats m) (0 : Fin 1) launch0 osem0 defs₀ Variants.none ownSemFacts0 H0 R0 T0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmainD m Variants.none) (hA := fun _ w => w.elim0)
    (hin := fun _ => .rfl) (hout := fun _ => .rfl) (hQ' := fun _ h => h)

/-- The frame: the arguments end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c), ((h.1 c).2 main_arg1 (Finset.mem_sdiff.mpr ⟨Pipeline.mem_restRefs_of main_arg1 (by decide) (by decide), by decide⟩)).trans (V_main_arg1 m c), ((h.1 c).2 main_arg2 (Finset.mem_sdiff.mpr ⟨Pipeline.mem_restRefs_of main_arg2 (by decide) (by decide), by decide⟩)).trans (V_main_arg2 m c), ((h.1 c).2 main_arg3 (Finset.mem_sdiff.mpr ⟨Pipeline.mem_restRefs_of main_arg3 (by decide) (by decide), by decide⟩)).trans (V_main_arg3 m c), ((h.1 c).2 main_arg4 (Finset.mem_sdiff.mpr ⟨Pipeline.mem_restRefs_of main_arg4 (by decide) (by decide), by decide⟩)).trans (V_main_arg4 m c)⟩, h.2⟩) (run_main m ρ)

end Cert.KernelIdeal.Hand

end
-- ==== Proof.Codes.lean ====
module

public import Idealize.ShloMosaic.Lib.Pointwise
public import Idealize.ShloMosaic.Lib.IdealHost
public import Idealize.ShloMosaic.Lib.WordSum
public import Mathlib.Data.BitVec

/-! The arithmetic of the codes: what rounding and clipping make of an extended real, and what the integer
    sums of products become in 32-bit words. -/

@[expose] public section

noncomputable section

namespace Cert.Codes

open Idealize.ShloMosaic

/-- Rounding to the nearest integer, ties to even. -/
def rnd (t : EReal) : EReal := Ideal.liftRound Ideal.roundHalfEven t

/-- Clipping to the interval from -127 to 127. -/
def clip (t : EReal) : EReal := min ((127 : ℝ) : EReal) (max ((-127 : ℝ) : EReal) t)

/-- The word of 127.0 is 127. -/
theorem ofBits_127 : Ideal.ofBits .f32 0x42FE0000#32 = ((127 : ℝ) : EReal) := by
  simp [Ideal.ofBits, Ideal.ieee]
  rw [← EReal.coe_mul]
  norm_num

/-- The word of -127.0 is -127. -/
theorem ofBits_neg127 : Ideal.ofBits .f32 0xC2FE0000#32 = ((-127 : ℝ) : EReal) := by
  simp [Ideal.ofBits, Ideal.ieee]
  rw [← EReal.coe_mul]
  norm_num

/-- Rounding does not pass an integer from below. -/
theorem rhe_le (r : ℝ) (n : ℤ) (h : r ≤ n) : Ideal.roundHalfEven r ≤ n := by
  have hf : ⌊r⌋ ≤ n := by exact_mod_cast (Int.floor_le r).trans h
  unfold Ideal.roundHalfEven
  rcases hf.lt_or_eq with h1 | h1
  · dsimp only; split_ifs <;> omega
  · have h2 : r - (⌊r⌋ : ℝ) < 1 / 2 := by rw [h1]; linarith
    simp only [h2, if_true]; omega

/-- Rounding does not pass an integer from above. -/
theorem le_rhe (r : ℝ) (n : ℤ) (h : (n : ℝ) ≤ r) : n ≤ Ideal.roundHalfEven r := by
  have hf : n ≤ ⌊r⌋ := Int.le_floor.mpr h
  unfold Ideal.roundHalfEven
  dsimp only; split_ifs <;> omega

/-- Rounding keeps an integer. -/
theorem rhe_int (n : ℤ) : Ideal.roundHalfEven (n : ℝ) = n :=
  le_antisymm (rhe_le _ n le_rfl) (le_rhe _ n le_rfl)

/-- Rounding keeps an integer, in the extended reals. -/
theorem rnd_int (n : ℤ) : rnd (((n : ℝ)) : EReal) = ((n : ℝ) : EReal) := by
  show (((Ideal.roundHalfEven (n : ℝ) : ℤ) : ℝ) : EReal) = _
  rw [rhe_int]

/-- Rounding a clipped value is clipping the rounded one: the bounds are integers. -/
theorem rnd_clip (t : EReal) : rnd (clip t) = clip (rnd t) := by
  have e1 : ((127 : ℝ) : EReal) = (((127 : ℤ) : ℝ) : EReal) := by norm_num
  have e2 : ((-127 : ℝ) : EReal) = (((-127 : ℤ) : ℝ) : EReal) := by norm_num
  have hle : ((-127 : ℝ) : EReal) ≤ ((127 : ℝ) : EReal) := by exact_mod_cast (by norm_num : (-127 : ℝ) ≤ 127)
  induction t using EReal.rec with
  | bot =>
    show rnd (clip ⊥) = clip ⊥
    unfold clip; rw [max_eq_left bot_le, min_eq_right hle, e2, rnd_int]
  | top =>
    show rnd (clip ⊤) = clip ⊤
    unfold clip; rw [max_eq_right le_top, min_eq_left le_top, e1, rnd_int]
  | coe r =>
    show rnd (clip r) = clip (((Ideal.roundHalfEven r : ℤ) : ℝ) : EReal)
    unfold clip
    rcases le_total r (-127) with h | h
    · have h1 : ((Ideal.roundHalfEven r : ℤ) : ℝ) ≤ -127 := by
        have := rhe_le r (-127) (by push_cast; exact h)
        exact_mod_cast this
      rw [max_eq_left (by exact_mod_cast h), max_eq_left (by exact_mod_cast h1), min_eq_right hle, e2, rnd_int]
    · have h1 : -127 ≤ ((Ideal.roundHalfEven r : ℤ) : ℝ) := by
        have := le_rhe r (-127) (by push_cast; exact h)
        exact_mod_cast this
      rw [max_eq_right (by exact_mod_cast h), max_eq_right (by exact_mod_cast h1)]
      rcases le_total r 127 with h' | h'
      · have h2 : ((Ideal.roundHalfEven r : ℤ) : ℝ) ≤ 127 := by
          have := rhe_le r 127 (by push_cast; exact h')
          exact_mod_cast this
        rw [min_eq_right (by exact_mod_cast h'), min_eq_right (by exact_mod_cast h2)]; rfl
      · have h2 : 127 ≤ ((Ideal.roundHalfEven r : ℤ) : ℝ) := by
          have := le_rhe r 127 (by push_cast; exact h')
          exact_mod_cast this
        rw [min_eq_left (by exact_mod_cast h'), min_eq_left (by exact_mod_cast h2), e1, rnd_int]

/-- A code: a clipped, rounded value is an integer between -127 and 127. -/
theorem exists_code (t : EReal) : ∃ z : ℤ, -127 ≤ z ∧ z ≤ 127 ∧ rnd (clip t) = ((z : ℝ) : EReal) := by
  have hle : ((-127 : ℝ) : EReal) ≤ ((127 : ℝ) : EReal) := by exact_mod_cast (by norm_num : (-127 : ℝ) ≤ 127)
  have h1 : ((-127 : ℝ) : EReal) ≤ clip t := le_min hle (le_max_left _ _)
  have h2 : clip t ≤ ((127 : ℝ) : EReal) := min_le_left _ _
  generalize clip t = u at h1 h2
  induction u using EReal.rec with
  | bot => exact absurd h1 (by simp)
  | top => exact absurd h2 (by simp)
  | coe r =>
    have h1' : (-127 : ℝ) ≤ r := by exact_mod_cast h1
    have h2' : r ≤ (127 : ℝ) := by exact_mod_cast h2
    exact ⟨Ideal.roundHalfEven r, le_rhe r (-127) (by push_cast; exact h1'), rhe_le r 127 (by push_cast; exact h2'), rfl⟩

/-- The integer of a code. -/
def code (t : EReal) : ℤ := (exists_code t).choose
theorem code_ge (t : EReal) : -127 ≤ code t := (exists_code t).choose_spec.1
theorem code_le (t : EReal) : code t ≤ 127 := (exists_code t).choose_spec.2.1
theorem rnd_clip_eq (t : EReal) : rnd (clip t) = ((code t : ℝ) : EReal) := (exists_code t).choose_spec.2.2

/-- Converting an integer inside the range gives its word. -/
theorem fptosi_int (w : ℕ) (z : ℤ) (h1 : -(2 ^ (w - 1) : ℕ) ≤ z) (h2 : z ≤ (2 ^ (w - 1) : ℕ) - 1) :
    Ideal.fptosi w ((z : ℝ) : EReal) = BitVec.ofInt w z := by
  show BitVec.ofInt w (max _ (min _ (if 0 ≤ (z : ℝ) then ⌊(z : ℝ)⌋ else ⌈(z : ℝ)⌉))) = _
  rw [Int.floor_intCast, Int.ceil_intCast, ite_self, min_eq_right h2, max_eq_right h1]

/-- The 8-bit word of a code, cut from the 32-bit one. -/
theorem setWidth_code (z : ℤ) : (BitVec.ofInt 32 z).setWidth 8 = BitVec.ofInt 8 z := by
  apply BitVec.eq_of_toInt_eq
  rw [BitVec.toInt_setWidth, BitVec.toInt_ofInt, BitVec.toNat_ofInt]
  have h0 : (0 : ℤ) ≤ z % (2 ^ 32 : ℕ) := Int.emod_nonneg _ (by norm_num)
  rw [Int.toNat_of_nonneg h0]
  rw [Int.bmod_def, Int.bmod_def]
  have : (z % (2 ^ 32 : ℕ)) % (2 ^ 8 : ℕ) = z % (2 ^ 8 : ℕ) := Int.emod_emod_of_dvd z (by norm_num)
  rw [this]

/-- The 32-bit word of an 8-bit word, sign kept, is the word of its value. -/
theorem signExtend_eq (b : BitVec 8) : b.signExtend 32 = BitVec.ofInt 32 b.toInt := by
  apply BitVec.eq_of_toInt_eq
  rw [BitVec.toInt_signExtend_of_le (by norm_num), BitVec.toInt_ofInt]
  have h1 := b.toInt_lt; have h2 := b.le_toInt
  norm_num at h1 h2
  exact (Int.bmod_eq_of_le (by norm_num; omega) (by norm_num; omega)).symm

/-- The value of the 8-bit word of a code. -/
theorem toInt_code (z : ℤ) (h1 : -127 ≤ z) (h2 : z ≤ 127) : (BitVec.ofInt 8 z).toInt = z := by
  rw [BitVec.toInt_ofInt]
  exact Int.bmod_eq_of_le (by norm_num; omega) (by norm_num; omega)

/-- The word of a sum is the sum of the words. -/
theorem ofInt_sum {ι : Type} (s : Finset ι) (f : ι → ℤ) :
    BitVec.ofInt 32 (∑ i ∈ s, f i) = ∑ i ∈ s, BitVec.ofInt 32 (f i) := by
  induction s using Finset.cons_induction with
  | empty => simp
  | cons a s ha ih => rw [Finset.sum_cons, Finset.sum_cons, BitVec.ofInt_add, ih]

/-- The extended real of a finite sum of reals is the sum of the extended reals. -/
theorem coe_sum {ι : Type} (s : Finset ι) (f : ι → ℝ) : ((∑ i ∈ s, f i : ℝ) : EReal) = ∑ i ∈ s, ((f i : ℝ) : EReal) := by
  induction s using Finset.cons_induction with
  | empty => simp
  | cons a s ha ih => rw [Finset.sum_cons, Finset.sum_cons, EReal.coe_add, ih]

/-- One chunk: the exact sum of products of codes and weights over 1024 columns, rounded and converted, is the
    sum of the products of the words. -/
theorem chunk (z : Fin 1024 → ℤ) (h1 : ∀ k, -127 ≤ z k) (h2 : ∀ k, z k ≤ 127) (w : Fin 1024 → BitVec 8) :
    Ideal.fptosi 32 (rnd (∑ k, ((z k : ℝ) : EReal) * (((w k).toInt : ℝ) : EReal)))
      = ∑ k, (BitVec.ofInt 8 (z k)).signExtend 32 * (w k).signExtend 32 := by
  have e : (∑ k, ((z k : ℝ) : EReal) * (((w k).toInt : ℝ) : EReal)) = (((∑ k, z k * (w k).toInt : ℤ) : ℝ) : EReal) := by
    push_cast
    rw [coe_sum]
    exact Finset.sum_congr rfl fun k _ => (EReal.coe_mul _ _).symm
  have hb : ∀ k, |z k * (w k).toInt| ≤ 127 * 128 := fun k => by
    have h3 := (w k).toInt_lt; have h4 := (w k).le_toInt
    norm_num at h3 h4
    rw [abs_mul]
    exact mul_le_mul (abs_le.mpr ⟨h1 k, h2 k⟩) (abs_le.mpr ⟨by omega, by omega⟩) (abs_nonneg _) (by norm_num)
  have hs : |∑ k, z k * (w k).toInt| ≤ 1024 * (127 * 128) := by
    refine (Finset.abs_sum_le_sum_abs _ _).trans ((Finset.sum_le_sum fun k _ => hb k).trans ?_)
    simp
  have hs' := abs_le.mp hs
  rw [e, rnd_int, fptosi_int 32 _ (by norm_num; omega) (by norm_num; omega), ofInt_sum]
  refine Finset.sum_congr rfl fun k _ => ?_
  rw [signExtend_eq, signExtend_eq, toInt_code _ (h1 k) (h2 k), BitVec.ofInt_mul]

/-- A sum over 4096 columns, cut in four chunks of 1024. -/
theorem sum_chunks (f : Fin 4096 → BitVec 32) :
    ∑ k, f k = (((∑ k : Fin 1024, f ⟨0 + k, by omega⟩) + ∑ k : Fin 1024, f ⟨1024 + k, by omega⟩)
      + ∑ k : Fin 1024, f ⟨2048 + k, by omega⟩) + ∑ k : Fin 1024, f ⟨3072 + k, by omega⟩ := by
  have h1 := Fin.sum_univ_add (a := 1024) (b := 3072) f
  have h2 := Fin.sum_univ_add (a := 1024) (b := 2048) fun i => f (Fin.natAdd 1024 i)
  have h3 := Fin.sum_univ_add (a := 1024) (b := 1024) fun i => f (Fin.natAdd 1024 (Fin.natAdd 1024 i))
  refine h1.trans ?_
  rw [show (∑ i : Fin 3072, f (Fin.natAdd 1024 i)) = _ from h2, show (∑ i : Fin 2048, f (Fin.natAdd 1024 (Fin.natAdd 1024 i))) = _ from h3,
    ← add_assoc, ← add_assoc]
  congr 1

/-! ### A row of the activations -/

/-- The largest magnitude in a row of the smoothed activations. -/
def rowMax (x s : Fin 4096 → EReal) : EReal :=
  Finset.univ.fold max (Ideal.ofBits .f32 0xFF800000#32) fun k => max (Ideal.div (x k) (s k)) (-(Ideal.div (x k) (s k)))

/-- The scale of a row: its largest magnitude over 127, or one for a row of zeros. -/
def scale (x s : Fin 4096 → EReal) : EReal :=
  if 0 < rowMax x s then Ideal.div (rowMax x s) (Ideal.ofBits .f32 0x42FE0000#32) else 1

/-- A smoothed activation over its row's scale. -/
def quo (x s : Fin 4096 → EReal) (k : Fin 4096) : EReal := Ideal.div (Ideal.div (x k) (s k)) (scale x s)

/-- The code of an activation, as a float. -/
def codeF (x s : Fin 4096 → EReal) (k : Fin 4096) : EReal := rnd (clip (quo x s k))

/-- The code of an activation, as an 8-bit word. -/
def code8 (x s : Fin 4096 → EReal) (k : Fin 4096) : BitVec 8 := BitVec.ofInt 8 (code (quo x s k))

/-- The integer product of a row of codes with a column of weight codes. -/
def acc (x s : Fin 4096 → EReal) (w : Fin 4096 → BitVec 8) : BitVec 32 :=
  ∑ k, (code8 x s k).signExtend 32 * (w k).signExtend 32

/-- One element of the result: the integer product, scaled by row and by column, plus the residual. -/
def yv (x s : Fin 4096 → EReal) (w : Fin 4096 → BitVec 8) (ws r : EReal) : EReal :=
  ((((acc x s w).toInt : ℝ) : EReal) * scale x s) * ws + r

/-- The kernel's way to a code word: through 32 bits. -/
theorem code8_of_32 (x s : Fin 4096 → EReal) (k : Fin 4096) :
    (Ideal.fptosi 32 (rnd (clip (quo x s k)))).setWidth 8 = code8 x s k := by
  have h1 := code_ge (quo x s k); have h2 := code_le (quo x s k)
  rw [rnd_clip_eq, fptosi_int 32 _ (by norm_num; omega) (by norm_num; omega), setWidth_code]; rfl

/-- The reference's way to a code word: rounded first, then clipped, then straight to 8 bits. -/
theorem code8_of_8 (x s : Fin 4096 → EReal) (k : Fin 4096) :
    Ideal.fptosi 8 (clip (rnd (quo x s k))) = code8 x s k := by
  have h1 := code_ge (quo x s k); have h2 := code_le (quo x s k)
  rw [← rnd_clip, rnd_clip_eq, fptosi_int 8 _ (by norm_num; omega) (by norm_num; omega)]; rfl

/-- One chunk of the kernel's product: 1024 columns from column `a` on. -/
theorem chunk_at (x s : Fin 4096 → EReal) (w : Fin 4096 → BitVec 8) (a : ℕ) (ha : a + 1024 ≤ 4096) :
    Ideal.fptosi 32 (rnd (∑ k : Fin 1024, codeF x s ⟨a + k, by omega⟩ * (((w ⟨a + k, by omega⟩).toInt : ℝ) : EReal)))
      = ∑ k : Fin 1024, (code8 x s ⟨a + k, by omega⟩).signExtend 32 * (w ⟨a + k, by omega⟩).signExtend 32 := by
  simp only [codeF, rnd_clip_eq]
  exact chunk _ (fun k => code_ge _) (fun k => code_le _) _

end Cert.Codes

end

end
-- ==== Proof.PayI.lean ====
module

public import proofs.«01_k».proof.Proof.Gen.KernelIdeal.Skeleton
public import proofs.«01_k».proof.Proof.Codes

/-! What the kernel's vector expressions hold, element by element. -/

@[expose] public section

set_option maxRecDepth 16384

noncomputable section

namespace Cert.KernelIdeal.Hand

open Cert.KernelIdeal Cert.KernelIdeal.Gen
open Idealize.ShloMosaic

/-- A block of 32 rows: the 8-bit codes. -/
theorem codes_at (s : Vec Ideal S1x4096 .f32) (x : Vec Ideal S32x4096 .bf16) (i : Fin 32) (k : Fin 4096) :
    k0_pay4 (F := Ideal) s x (ix2 i k) = Codes.code8 (fun k => x (ix2 i k)) (fun k => s (ix2 0 k)) k := by
  rw [← Codes.code8_of_32]
  pointwise [k0_pay4, k0_pay3, k0_pay2, k0_pay1, Codes.rnd, Codes.clip, Codes.quo, Codes.scale, Codes.rowMax]
  simp only [Codes.ofBits_127, Codes.ofBits_neg127]
  rfl

/-- A block of 32 rows: the codes as the product's left operand. -/
theorem lhs_at (s : Vec Ideal S1x4096 .f32) (x : Vec Ideal S32x4096 .bf16) (i : Fin 32) (k : Fin 4096) :
    k0_pay5 (F := Ideal) s x (ix2 i k) = Codes.codeF (fun k => x (ix2 i k)) (fun k => s (ix2 0 k)) k := by
  pointwise [k0_pay5, k0_pay3, k0_pay2, k0_pay1, Codes.codeF, Codes.rnd, Codes.clip, Codes.quo, Codes.scale, Codes.rowMax]
  simp only [Codes.ofBits_127, Codes.ofBits_neg127]
  rfl

/-- A block of 32 rows: the scales, the same in all 128 lanes. -/
theorem scale_at (s : Vec Ideal S1x4096 .f32) (x : Vec Ideal S32x4096 .bf16) (i : Fin 32) (l : Fin 128) :
    k0_pay7 (F := Ideal) (k0_pay6 s x) (ix2 i l) = Codes.scale (fun k => x (ix2 i k)) (fun k => s (ix2 0 k)) := by
  pointwise [k0_pay7, k0_pay6, k0_pay2, k0_pay1, Codes.scale, Codes.rowMax]
  rfl

/-- The row of scales: the first column of the block, read as a row. -/
theorem srow_at (v : Vec Ideal S128x128 .f32) (k : Fin 128) : k0_pay83 (F := Ideal) v (ix2 0 k) = v (ix2 k 0) := by
  pointwise [k0_pay83]

/-- A group of 512 columns of the result. -/
theorem y512_at (l0 : Vec Ideal S384x1024 .bf16) (w0 : Vec Ideal S1024x512 .i8) (l1 : Vec Ideal S384x1024 .bf16) (w1 : Vec Ideal S1024x512 .i8)
    (l2 : Vec Ideal S384x1024 .bf16) (w2 : Vec Ideal S1024x512 .i8) (l3 : Vec Ideal S384x1024 .bf16) (w3 : Vec Ideal S1024x512 .i8)
    (sc : Vec Ideal S384x128 .f32) (ws : Vec Ideal S1x512 .f32) (res : Vec Ideal S384x512 .bf16) (i : Fin 384) (n : Fin 512)
    (x s : Fin 4096 → EReal) (w : Fin 4096 → BitVec 8)
    (hl0 : ∀ k : Fin 1024, l0 (ix2 i k) = Codes.codeF x s ⟨0 + k, by omega⟩) (hl1 : ∀ k : Fin 1024, l1 (ix2 i k) = Codes.codeF x s ⟨1024 + k, by omega⟩)
    (hl2 : ∀ k : Fin 1024, l2 (ix2 i k) = Codes.codeF x s ⟨2048 + k, by omega⟩) (hl3 : ∀ k : Fin 1024, l3 (ix2 i k) = Codes.codeF x s ⟨3072 + k, by omega⟩)
    (hw0 : ∀ k : Fin 1024, w0 (ix2 k n) = w ⟨0 + k, by omega⟩) (hw1 : ∀ k : Fin 1024, w1 (ix2 k n) = w ⟨1024 + k, by omega⟩)
    (hw2 : ∀ k : Fin 1024, w2 (ix2 k n) = w ⟨2048 + k, by omega⟩) (hw3 : ∀ k : Fin 1024, w3 (ix2 k n) = w ⟨3072 + k, by omega⟩)
    (hsc : ∀ l : Fin 128, sc (ix2 i l) = Codes.scale x s) :
    k0_pay87 (F := Ideal) (k0_pay86 l0 w0 l1 w1 l2 w2 l3 w3) sc ws res (ix2 i n) = Codes.yv x s w (ws (ix2 0 n)) (res (ix2 i n)) := by
  have e0 := Codes.chunk_at x s w 0 (by omega)
  have e1 := Codes.chunk_at x s w 1024 (by omega)
  have e2 := Codes.chunk_at x s w 2048 (by omega)
  have e3 := Codes.chunk_at x s w 3072 (by omega)
  unfold Codes.yv Codes.acc
  rw [Codes.sum_chunks, ← e0, ← e1, ← e2, ← e3]
  pointwise [k0_pay87, k0_pay86]
  simp only [hl0, hl1, hl2, hl3, hw0, hw1, hw2, hw3, hsc, dite_eq_ite, ite_self]
  rfl

/-- The last group, of 384 columns. -/
theorem y384_at (l0 : Vec Ideal S384x1024 .bf16) (w0 : Vec Ideal S1024x384 .i8) (l1 : Vec Ideal S384x1024 .bf16) (w1 : Vec Ideal S1024x384 .i8)
    (l2 : Vec Ideal S384x1024 .bf16) (w2 : Vec Ideal S1024x384 .i8) (l3 : Vec Ideal S384x1024 .bf16) (w3 : Vec Ideal S1024x384 .i8)
    (sc : Vec Ideal S384x128 .f32) (ws : Vec Ideal S1x384 .f32) (res : Vec Ideal S384x384 .bf16) (i : Fin 384) (n : Fin 384)
    (x s : Fin 4096 → EReal) (w : Fin 4096 → BitVec 8)
    (hl0 : ∀ k : Fin 1024, l0 (ix2 i k) = Codes.codeF x s ⟨0 + k, by omega⟩) (hl1 : ∀ k : Fin 1024, l1 (ix2 i k) = Codes.codeF x s ⟨1024 + k, by omega⟩)
    (hl2 : ∀ k : Fin 1024, l2 (ix2 i k) = Codes.codeF x s ⟨2048 + k, by omega⟩) (hl3 : ∀ k : Fin 1024, l3 (ix2 i k) = Codes.codeF x s ⟨3072 + k, by omega⟩)
    (hw0 : ∀ k : Fin 1024, w0 (ix2 k n) = w ⟨0 + k, by omega⟩) (hw1 : ∀ k : Fin 1024, w1 (ix2 k n) = w ⟨1024 + k, by omega⟩)
    (hw2 : ∀ k : Fin 1024, w2 (ix2 k n) = w ⟨2048 + k, by omega⟩) (hw3 : ∀ k : Fin 1024, w3 (ix2 k n) = w ⟨3072 + k, by omega⟩)
    (hsc : ∀ l : Fin 128, sc (ix2 i l) = Codes.scale x s) :
    k0_pay112 (F := Ideal) (k0_pay111 l0 (k0_pay110 w0) (constant S384x384 .f32 0x00000000#32) l1 w1 l2 w2 l3 w3 sc ws res) (ix2 i n)
      = Codes.yv x s w (ws (ix2 0 n)) (res (ix2 i n)) := by
  have e0 := Codes.chunk_at x s w 0 (by omega)
  have e1 := Codes.chunk_at x s w 1024 (by omega)
  have e2 := Codes.chunk_at x s w 2048 (by omega)
  have e3 := Codes.chunk_at x s w 3072 (by omega)
  unfold Codes.yv Codes.acc
  rw [Codes.sum_chunks, ← e0, ← e1, ← e2, ← e3]
  pointwise [k0_pay112, k0_pay111, k0_pay110]
  simp only [hl0, hl1, hl2, hl3, hw0, hw1, hw2, hw3, hsc, dite_eq_ite, ite_self]
  rfl

end Cert.KernelIdeal.Hand

end

end
-- ==== Proof.Reads.lean ====
module

public import proofs.«01_k».proof.Proof.BodyI
public import proofs.«01_k».proof.Proof.PayI
public import Idealize.ShloMosaic.Lib.Ring

/-! What the kernel reads back from its scratch memory: the input arrays where its copies put them. -/

@[expose] public section

set_option maxRecDepth 16384

noncomputable section

namespace Cert.KernelIdeal.Hand

open Cert.KernelIdeal Cert.KernelIdeal.Gen
open Idealize.ShloMosaic Idealize.ShloMosaic.TcCoe

/-- Pieces that agree with one function `g` read back as `g` wherever some piece lies. -/
theorem canon_of_pieces {s : Shape} {e : EltTy} (L : List (View.Piece (Elt Ideal) s e)) (g : s.Idx → Elt Ideal e)
    (hp : ∀ pc ∈ L, ∀ x, pc.2 x = g (pc.1.emb x)) (y : s.Idx) (hc : ∃ pc ∈ L, y ∈ pc.1.set) : View.canon L y = g y := by
  induction L with
  | nil => obtain ⟨_, hm, _⟩ := hc; exact absurd hm List.not_mem_nil
  | cons p L ih =>
    by_cases hy : y ∈ p.1.set
    · obtain ⟨r, w⟩ := p
      obtain ⟨x, rfl⟩ : ∃ x, r.emb x = y := r.exists_idx_of_mem hy
      rw [View.canon_cons_emb]
      exact hp _ List.mem_cons_self x
    · rw [View.canon_cons_of_not_mem p L hy]
      refine ih (fun pc h => hp pc (List.mem_cons_of_mem _ h)) ?_
      obtain ⟨pc, hm, hpc⟩ := hc
      rcases List.mem_cons.mp hm with rfl | hm
      · exact absurd hpc hy
      · exact ⟨pc, hm, hpc⟩

/-- A load from such pieces, covering the whole buffer. -/
theorem readCov_of_pieces {sp : Space} {s : Shape} {e : EltTy} (v : View sig .tc sp s e) (L : List (View.Piece (Elt Ideal) s e)) (B : LoadRect s)
    (g : s.Idx → Elt Ideal e) (hp : ∀ pc ∈ L, ∀ x, pc.2 x = g (pc.1.emb x)) (hc : ∀ y, ∃ pc ∈ L, y ∈ pc.1.set) :
    v.readCov L B = fun j => g (B.idx j) := by
  rw [View.readCov_eq_canon']
  funext j
  exact canon_of_pieces L g hp _ (hc _)

/-- The copies that fill the scratch buffer of `x`, last first. -/
def xL (c : Dev nD) (f0 : Bf (F := Ideal) c (Memref.whole main_v0)) : List (View.Piece (Elt Ideal) S384x4096 .bf16) :=
    [⟨Rect.unit ![256, 0] S128x4096.size (by decide), kernelRun.sl.dma0_3 (F := Ideal) c f0⟩, ⟨Rect.unit ![128, 0] S128x4096.size (by decide), kernelRun.sl.dma0_2 (F := Ideal) c f0⟩, ⟨Rect.unit ![0, 0] S128x4096.size (by decide), kernelRun.sl.dma0_1 (F := Ideal) c f0⟩]

/-- Each copy brings the array's own elements. -/
theorem xL_pieces (c : Dev nD) (f0 : Bf (F := Ideal) c (Memref.whole main_v0)) : ∀ pc ∈ xL c f0, ∀ x, pc.2 x = (f0 : (Shape.Idx _) → _) (pc.1.emb x) := by
  unfold xL
  simp only [List.forall_mem_cons]
  refine ⟨fun x => rfl, fun x => rfl, fun x => rfl, fun _ h => absurd h List.not_mem_nil⟩

/-- Together they cover the buffer. -/
theorem xL_cover (c : Dev nD) (f0 : Bf (F := Ideal) c (Memref.whole main_v0)) : ∀ y, ∃ pc ∈ xL c f0, y ∈ pc.1.set :=
  View.cover_of_tiledBy _ ![128, 4096] (by sl_kernel_rfl)

/-- The copies that fill the scratch buffer of `w`, last first. -/
def wL (c : Dev nD) (f2 : Bf (F := Ideal) c (Memref.whole main_arg2)) : List (View.Piece (Elt Ideal) S4096x5504 .i8) :=
    [⟨Rect.unit ![0, 5120] S4096x384.size (by decide), kernelRun.sl.dma94_6 (F := Ideal) c f2⟩, ⟨Rect.unit ![0, 3584] S4096x1536.size (by decide), kernelRun.sl.dma94_4 (F := Ideal) c f2⟩,
      ⟨Rect.unit ![0, 1536] S4096x2048.size (by decide), kernelRun.sl.dma94_2 (F := Ideal) c f2⟩, ⟨Rect.unit ![0, 512] S4096x1024.size (by decide), kernelRun.sl.dma94 (F := Ideal) c f2⟩,
      ⟨Rect.unit ![0, 0] S4096x512.size (by decide), kernelRun.sl.dma0_5 (F := Ideal) c f2⟩]

/-- Each copy brings the array's own elements. -/
theorem wL_pieces (c : Dev nD) (f2 : Bf (F := Ideal) c (Memref.whole main_arg2)) : ∀ pc ∈ wL c f2, ∀ x, pc.2 x = (f2 : (Shape.Idx _) → _) (pc.1.emb x) := by
  unfold wL
  simp only [List.forall_mem_cons]
  refine ⟨fun x => rfl, fun x => rfl, fun x => rfl, fun x => rfl, fun x => rfl, fun _ h => absurd h List.not_mem_nil⟩

/-- Together they cover the buffer. -/
theorem wL_cover (c : Dev nD) (f2 : Bf (F := Ideal) c (Memref.whole main_arg2)) : ∀ y, ∃ pc ∈ wL c f2, y ∈ pc.1.set :=
  View.cover_of_tiledBy _ ![4096, 128] (by sl_kernel_rfl)

/-- The copies that fill the scratch buffer of `residual`, last first. -/
def rL (c : Dev nD) (f4 : Bf (F := Ideal) c (Memref.whole main_v3)) : List (View.Piece (Elt Ideal) S384x5504 .bf16) :=
    [⟨Rect.unit ![0, 5120] S384x384.size (by decide), kernelRun.sl.dma94_7 (F := Ideal) c f4⟩, ⟨Rect.unit ![0, 3584] S384x1536.size (by decide), kernelRun.sl.dma94_5 (F := Ideal) c f4⟩,
      ⟨Rect.unit ![0, 1536] S384x2048.size (by decide), kernelRun.sl.dma94_3 (F := Ideal) c f4⟩, ⟨Rect.unit ![0, 512] S384x1024.size (by decide), kernelRun.sl.dma94_1 (F := Ideal) c f4⟩,
      ⟨Rect.unit ![0, 0] S384x512.size (by decide), kernelRun.sl.dma0_6 (F := Ideal) c f4⟩]

/-- Each copy brings the array's own elements. -/
theorem rL_pieces (c : Dev nD) (f4 : Bf (F := Ideal) c (Memref.whole main_v3)) : ∀ pc ∈ rL c f4, ∀ x, pc.2 x = (f4 : (Shape.Idx _) → _) (pc.1.emb x) := by
  unfold rL
  simp only [List.forall_mem_cons]
  refine ⟨fun x => rfl, fun x => rfl, fun x => rfl, fun x => rfl, fun x => rfl, fun _ h => absurd h List.not_mem_nil⟩

/-- Together they cover the buffer. -/
theorem rL_cover (c : Dev nD) (f4 : Bf (F := Ideal) c (Memref.whole main_v3)) : ∀ y, ∃ pc ∈ rL c f4, y ∈ pc.1.set :=
  View.cover_of_tiledBy _ ![384, 128] (by sl_kernel_rfl)

/-- A load of the array's block at 0, 0. -/
theorem v31_eq (c : Dev nD) (f0 : S384x4096.Idx → Elt Ideal .bf16) : kernelRun.sl.v31 (F := Ideal) c f0 = fun j => f0 ((Rect.unit (s := S384x4096) ![0, 0] S32x4096.size inb_S384x4096_S32x4096_0_0).toLoadRect.idx j) := by
  unfold kernelRun.sl.v31; exact readCov_of_pieces _ (xL c f0) _ f0 (xL_pieces c f0) (xL_cover c f0)

/-- A load of the array's block at 32, 0. -/
theorem v65_eq (c : Dev nD) (f0 : S384x4096.Idx → Elt Ideal .bf16) : kernelRun.sl.v65 (F := Ideal) c f0 = fun j => f0 ((Rect.unit (s := S384x4096) ![32, 0] S32x4096.size inb_S384x4096_S32x4096_32_0).toLoadRect.idx j) := by
  unfold kernelRun.sl.v65; exact readCov_of_pieces _ (xL c f0) _ f0 (xL_pieces c f0) (xL_cover c f0)

/-- A load of the array's block at 64, 0. -/
theorem v_eq (c : Dev nD) (f0 : S384x4096.Idx → Elt Ideal .bf16) : kernelRun.sl.v (F := Ideal) c f0 = fun j => f0 ((Rect.unit (s := S384x4096) ![64, 0] S32x4096.size inb_S384x4096_S32x4096_64_0).toLoadRect.idx j) := by
  unfold kernelRun.sl.v; exact readCov_of_pieces _ (xL c f0) _ f0 (xL_pieces c f0) (xL_cover c f0)

/-- A load of the array's block at 96, 0. -/
theorem v133_eq (c : Dev nD) (f0 : S384x4096.Idx → Elt Ideal .bf16) : kernelRun.sl.v133 (F := Ideal) c f0 = fun j => f0 ((Rect.unit (s := S384x4096) ![96, 0] S32x4096.size inb_S384x4096_S32x4096_96_0).toLoadRect.idx j) := by
  unfold kernelRun.sl.v133; exact readCov_of_pieces _ (xL c f0) _ f0 (xL_pieces c f0) (xL_cover c f0)

/-- A load of the array's block at 128, 0. -/
theorem v171_eq (c : Dev nD) (f0 : S384x4096.Idx → Elt Ideal .bf16) : kernelRun.sl.v171 (F := Ideal) c f0 = fun j => f0 ((Rect.unit (s := S384x4096) ![128, 0] S32x4096.size inb_S384x4096_S32x4096_128_0).toLoadRect.idx j) := by
  unfold kernelRun.sl.v171; exact readCov_of_pieces _ (xL c f0) _ f0 (xL_pieces c f0) (xL_cover c f0)

/-- A load of the array's block at 160, 0. -/
theorem v205_eq (c : Dev nD) (f0 : S384x4096.Idx → Elt Ideal .bf16) : kernelRun.sl.v205 (F := Ideal) c f0 = fun j => f0 ((Rect.unit (s := S384x4096) ![160, 0] S32x4096.size inb_S384x4096_S32x4096_160_0).toLoadRect.idx j) := by
  unfold kernelRun.sl.v205; exact readCov_of_pieces _ (xL c f0) _ f0 (xL_pieces c f0) (xL_cover c f0)

/-- A load of the array's block at 192, 0. -/
theorem v239_eq (c : Dev nD) (f0 : S384x4096.Idx → Elt Ideal .bf16) : kernelRun.sl.v239 (F := Ideal) c f0 = fun j => f0 ((Rect.unit (s := S384x4096) ![192, 0] S32x4096.size inb_S384x4096_S32x4096_192_0).toLoadRect.idx j) := by
  unfold kernelRun.sl.v239; exact readCov_of_pieces _ (xL c f0) _ f0 (xL_pieces c f0) (xL_cover c f0)

/-- A load of the array's block at 224, 0. -/
theorem v273_eq (c : Dev nD) (f0 : S384x4096.Idx → Elt Ideal .bf16) : kernelRun.sl.v273 (F := Ideal) c f0 = fun j => f0 ((Rect.unit (s := S384x4096) ![224, 0] S32x4096.size inb_S384x4096_S32x4096_224_0).toLoadRect.idx j) := by
  unfold kernelRun.sl.v273; exact readCov_of_pieces _ (xL c f0) _ f0 (xL_pieces c f0) (xL_cover c f0)

/-- A load of the array's block at 256, 0. -/
theorem v311_eq (c : Dev nD) (f0 : S384x4096.Idx → Elt Ideal .bf16) : kernelRun.sl.v311 (F := Ideal) c f0 = fun j => f0 ((Rect.unit (s := S384x4096) ![256, 0] S32x4096.size inb_S384x4096_S32x4096_256_0).toLoadRect.idx j) := by
  unfold kernelRun.sl.v311; exact readCov_of_pieces _ (xL c f0) _ f0 (xL_pieces c f0) (xL_cover c f0)

/-- A load of the array's block at 288, 0. -/
theorem v345_eq (c : Dev nD) (f0 : S384x4096.Idx → Elt Ideal .bf16) : kernelRun.sl.v345 (F := Ideal) c f0 = fun j => f0 ((Rect.unit (s := S384x4096) ![288, 0] S32x4096.size inb_S384x4096_S32x4096_288_0).toLoadRect.idx j) := by
  unfold kernelRun.sl.v345; exact readCov_of_pieces _ (xL c f0) _ f0 (xL_pieces c f0) (xL_cover c f0)

/-- A load of the array's block at 320, 0. -/
theorem v379_eq (c : Dev nD) (f0 : S384x4096.Idx → Elt Ideal .bf16) : kernelRun.sl.v379 (F := Ideal) c f0 = fun j => f0 ((Rect.unit (s := S384x4096) ![320, 0] S32x4096.size inb_S384x4096_S32x4096_320_0).toLoadRect.idx j) := by
  unfold kernelRun.sl.v379; exact readCov_of_pieces _ (xL c f0) _ f0 (xL_pieces c f0) (xL_cover c f0)

/-- A load of the array's block at 352, 0. -/
theorem v413_eq (c : Dev nD) (f0 : S384x4096.Idx → Elt Ideal .bf16) : kernelRun.sl.v413 (F := Ideal) c f0 = fun j => f0 ((Rect.unit (s := S384x4096) ![352, 0] S32x4096.size inb_S384x4096_S32x4096_352_0).toLoadRect.idx j) := by
  unfold kernelRun.sl.v413; exact readCov_of_pieces _ (xL c f0) _ f0 (xL_pieces c f0) (xL_cover c f0)

/-- A load of the array's block at 0, 0. -/
theorem v512_eq (c : Dev nD) (f2 : S4096x5504.Idx → Elt Ideal .i8) : kernelRun.sl.v512 (F := Ideal) c f2 = fun j => f2 ((Rect.unit (s := S4096x5504) ![0, 0] S1024x512.size inb_S4096x5504_S1024x512_0_0).toLoadRect.idx j) := by
  unfold kernelRun.sl.v512; exact readCov_of_pieces _ (wL c f2) _ f2 (wL_pieces c f2) (wL_cover c f2)

/-- A load of the array's block at 1024, 0. -/
theorem v518_eq (c : Dev nD) (f2 : S4096x5504.Idx → Elt Ideal .i8) : kernelRun.sl.v518 (F := Ideal) c f2 = fun j => f2 ((Rect.unit (s := S4096x5504) ![1024, 0] S1024x512.size inb_S4096x5504_S1024x512_1024_0).toLoadRect.idx j) := by
  unfold kernelRun.sl.v518; exact readCov_of_pieces _ (wL c f2) _ f2 (wL_pieces c f2) (wL_cover c f2)

/-- A load of the array's block at 2048, 0. -/
theorem v525_eq (c : Dev nD) (f2 : S4096x5504.Idx → Elt Ideal .i8) : kernelRun.sl.v525 (F := Ideal) c f2 = fun j => f2 ((Rect.unit (s := S4096x5504) ![2048, 0] S1024x512.size inb_S4096x5504_S1024x512_2048_0).toLoadRect.idx j) := by
  unfold kernelRun.sl.v525; exact readCov_of_pieces _ (wL c f2) _ f2 (wL_pieces c f2) (wL_cover c f2)

/-- A load of the array's block at 3072, 0. -/
theorem v532_eq (c : Dev nD) (f2 : S4096x5504.Idx → Elt Ideal .i8) : kernelRun.sl.v532 (F := Ideal) c f2 = fun j => f2 ((Rect.unit (s := S4096x5504) ![3072, 0] S1024x512.size inb_S4096x5504_S1024x512_3072_0).toLoadRect.idx j) := by
  unfold kernelRun.sl.v532; exact readCov_of_pieces _ (wL c f2) _ f2 (wL_pieces c f2) (wL_cover c f2)

/-- A load of the array's block at 0, 512. -/
theorem v565_eq (c : Dev nD) (f2 : S4096x5504.Idx → Elt Ideal .i8) : kernelRun.sl.v565 (F := Ideal) c f2 = fun j => f2 ((Rect.unit (s := S4096x5504) ![0, 512] S1024x512.size inb_S4096x5504_S1024x512_0_512).toLoadRect.idx j) := by
  unfold kernelRun.sl.v565; exact readCov_of_pieces _ (wL c f2) _ f2 (wL_pieces c f2) (wL_cover c f2)

/-- A load of the array's block at 1024, 512. -/
theorem v571_eq (c : Dev nD) (f2 : S4096x5504.Idx → Elt Ideal .i8) : kernelRun.sl.v571 (F := Ideal) c f2 = fun j => f2 ((Rect.unit (s := S4096x5504) ![1024, 512] S1024x512.size inb_S4096x5504_S1024x512_1024_512).toLoadRect.idx j) := by
  unfold kernelRun.sl.v571; exact readCov_of_pieces _ (wL c f2) _ f2 (wL_pieces c f2) (wL_cover c f2)

/-- A load of the array's block at 2048, 512. -/
theorem v578_eq (c : Dev nD) (f2 : S4096x5504.Idx → Elt Ideal .i8) : kernelRun.sl.v578 (F := Ideal) c f2 = fun j => f2 ((Rect.unit (s := S4096x5504) ![2048, 512] S1024x512.size inb_S4096x5504_S1024x512_2048_512).toLoadRect.idx j) := by
  unfold kernelRun.sl.v578; exact readCov_of_pieces _ (wL c f2) _ f2 (wL_pieces c f2) (wL_cover c f2)

/-- A load of the array's block at 3072, 512. -/
theorem v585_eq (c : Dev nD) (f2 : S4096x5504.Idx → Elt Ideal .i8) : kernelRun.sl.v585 (F := Ideal) c f2 = fun j => f2 ((Rect.unit (s := S4096x5504) ![3072, 512] S1024x512.size inb_S4096x5504_S1024x512_3072_512).toLoadRect.idx j) := by
  unfold kernelRun.sl.v585; exact readCov_of_pieces _ (wL c f2) _ f2 (wL_pieces c f2) (wL_cover c f2)

/-- A load of the array's block at 0, 1024. -/
theorem v606_eq (c : Dev nD) (f2 : S4096x5504.Idx → Elt Ideal .i8) : kernelRun.sl.v606 (F := Ideal) c f2 = fun j => f2 ((Rect.unit (s := S4096x5504) ![0, 1024] S1024x512.size inb_S4096x5504_S1024x512_0_1024).toLoadRect.idx j) := by
  unfold kernelRun.sl.v606; exact readCov_of_pieces _ (wL c f2) _ f2 (wL_pieces c f2) (wL_cover c f2)

/-- A load of the array's block at 1024, 1024. -/
theorem v612_eq (c : Dev nD) (f2 : S4096x5504.Idx → Elt Ideal .i8) : kernelRun.sl.v612 (F := Ideal) c f2 = fun j => f2 ((Rect.unit (s := S4096x5504) ![1024, 1024] S1024x512.size inb_S4096x5504_S1024x512_1024_1024).toLoadRect.idx j) := by
  unfold kernelRun.sl.v612; exact readCov_of_pieces _ (wL c f2) _ f2 (wL_pieces c f2) (wL_cover c f2)

/-- A load of the array's block at 2048, 1024. -/
theorem v619_eq (c : Dev nD) (f2 : S4096x5504.Idx → Elt Ideal .i8) : kernelRun.sl.v619 (F := Ideal) c f2 = fun j => f2 ((Rect.unit (s := S4096x5504) ![2048, 1024] S1024x512.size inb_S4096x5504_S1024x512_2048_1024).toLoadRect.idx j) := by
  unfold kernelRun.sl.v619; exact readCov_of_pieces _ (wL c f2) _ f2 (wL_pieces c f2) (wL_cover c f2)

/-- A load of the array's block at 3072, 1024. -/
theorem v626_eq (c : Dev nD) (f2 : S4096x5504.Idx → Elt Ideal .i8) : kernelRun.sl.v626 (F := Ideal) c f2 = fun j => f2 ((Rect.unit (s := S4096x5504) ![3072, 1024] S1024x512.size inb_S4096x5504_S1024x512_3072_1024).toLoadRect.idx j) := by
  unfold kernelRun.sl.v626; exact readCov_of_pieces _ (wL c f2) _ f2 (wL_pieces c f2) (wL_cover c f2)

/-- A load of the array's block at 0, 1536. -/
theorem v659_eq (c : Dev nD) (f2 : S4096x5504.Idx → Elt Ideal .i8) : kernelRun.sl.v659 (F := Ideal) c f2 = fun j => f2 ((Rect.unit (s := S4096x5504) ![0, 1536] S1024x512.size inb_S4096x5504_S1024x512_0_1536).toLoadRect.idx j) := by
  unfold kernelRun.sl.v659; exact readCov_of_pieces _ (wL c f2) _ f2 (wL_pieces c f2) (wL_cover c f2)

/-- A load of the array's block at 1024, 1536. -/
theorem v665_eq (c : Dev nD) (f2 : S4096x5504.Idx → Elt Ideal .i8) : kernelRun.sl.v665 (F := Ideal) c f2 = fun j => f2 ((Rect.unit (s := S4096x5504) ![1024, 1536] S1024x512.size inb_S4096x5504_S1024x512_1024_1536).toLoadRect.idx j) := by
  unfold kernelRun.sl.v665; exact readCov_of_pieces _ (wL c f2) _ f2 (wL_pieces c f2) (wL_cover c f2)

/-- A load of the array's block at 2048, 1536. -/
theorem v672_eq (c : Dev nD) (f2 : S4096x5504.Idx → Elt Ideal .i8) : kernelRun.sl.v672 (F := Ideal) c f2 = fun j => f2 ((Rect.unit (s := S4096x5504) ![2048, 1536] S1024x512.size inb_S4096x5504_S1024x512_2048_1536).toLoadRect.idx j) := by
  unfold kernelRun.sl.v672; exact readCov_of_pieces _ (wL c f2) _ f2 (wL_pieces c f2) (wL_cover c f2)

/-- A load of the array's block at 3072, 1536. -/
theorem v679_eq (c : Dev nD) (f2 : S4096x5504.Idx → Elt Ideal .i8) : kernelRun.sl.v679 (F := Ideal) c f2 = fun j => f2 ((Rect.unit (s := S4096x5504) ![3072, 1536] S1024x512.size inb_S4096x5504_S1024x512_3072_1536).toLoadRect.idx j) := by
  unfold kernelRun.sl.v679; exact readCov_of_pieces _ (wL c f2) _ f2 (wL_pieces c f2) (wL_cover c f2)

/-- A load of the array's block at 0, 2048. -/
theorem v700_eq (c : Dev nD) (f2 : S4096x5504.Idx → Elt Ideal .i8) : kernelRun.sl.v700 (F := Ideal) c f2 = fun j => f2 ((Rect.unit (s := S4096x5504) ![0, 2048] S1024x512.size inb_S4096x5504_S1024x512_0_2048).toLoadRect.idx j) := by
  unfold kernelRun.sl.v700; exact readCov_of_pieces _ (wL c f2) _ f2 (wL_pieces c f2) (wL_cover c f2)

/-- A load of the array's block at 1024, 2048. -/
theorem v706_eq (c : Dev nD) (f2 : S4096x5504.Idx → Elt Ideal .i8) : kernelRun.sl.v706 (F := Ideal) c f2 = fun j => f2 ((Rect.unit (s := S4096x5504) ![1024, 2048] S1024x512.size inb_S4096x5504_S1024x512_1024_2048).toLoadRect.idx j) := by
  unfold kernelRun.sl.v706; exact readCov_of_pieces _ (wL c f2) _ f2 (wL_pieces c f2) (wL_cover c f2)

/-- A load of the array's block at 2048, 2048. -/
theorem v713_eq (c : Dev nD) (f2 : S4096x5504.Idx → Elt Ideal .i8) : kernelRun.sl.v713 (F := Ideal) c f2 = fun j => f2 ((Rect.unit (s := S4096x5504) ![2048, 2048] S1024x512.size inb_S4096x5504_S1024x512_2048_2048).toLoadRect.idx j) := by
  unfold kernelRun.sl.v713; exact readCov_of_pieces _ (wL c f2) _ f2 (wL_pieces c f2) (wL_cover c f2)

/-- A load of the array's block at 3072, 2048. -/
theorem v720_eq (c : Dev nD) (f2 : S4096x5504.Idx → Elt Ideal .i8) : kernelRun.sl.v720 (F := Ideal) c f2 = fun j => f2 ((Rect.unit (s := S4096x5504) ![3072, 2048] S1024x512.size inb_S4096x5504_S1024x512_3072_2048).toLoadRect.idx j) := by
  unfold kernelRun.sl.v720; exact readCov_of_pieces _ (wL c f2) _ f2 (wL_pieces c f2) (wL_cover c f2)

/-- A load of the array's block at 0, 2560. -/
theorem v741_eq (c : Dev nD) (f2 : S4096x5504.Idx → Elt Ideal .i8) : kernelRun.sl.v741 (F := Ideal) c f2 = fun j => f2 ((Rect.unit (s := S4096x5504) ![0, 2560] S1024x512.size inb_S4096x5504_S1024x512_0_2560).toLoadRect.idx j) := by
  unfold kernelRun.sl.v741; exact readCov_of_pieces _ (wL c f2) _ f2 (wL_pieces c f2) (wL_cover c f2)

/-- A load of the array's block at 1024, 2560. -/
theorem v747_eq (c : Dev nD) (f2 : S4096x5504.Idx → Elt Ideal .i8) : kernelRun.sl.v747 (F := Ideal) c f2 = fun j => f2 ((Rect.unit (s := S4096x5504) ![1024, 2560] S1024x512.size inb_S4096x5504_S1024x512_1024_2560).toLoadRect.idx j) := by
  unfold kernelRun.sl.v747; exact readCov_of_pieces _ (wL c f2) _ f2 (wL_pieces c f2) (wL_cover c f2)

/-- A load of the array's block at 2048, 2560. -/
theorem v754_eq (c : Dev nD) (f2 : S4096x5504.Idx → Elt Ideal .i8) : kernelRun.sl.v754 (F := Ideal) c f2 = fun j => f2 ((Rect.unit (s := S4096x5504) ![2048, 2560] S1024x512.size inb_S4096x5504_S1024x512_2048_2560).toLoadRect.idx j) := by
  unfold kernelRun.sl.v754; exact readCov_of_pieces _ (wL c f2) _ f2 (wL_pieces c f2) (wL_cover c f2)

/-- A load of the array's block at 3072, 2560. -/
theorem v761_eq (c : Dev nD) (f2 : S4096x5504.Idx → Elt Ideal .i8) : kernelRun.sl.v761 (F := Ideal) c f2 = fun j => f2 ((Rect.unit (s := S4096x5504) ![3072, 2560] S1024x512.size inb_S4096x5504_S1024x512_3072_2560).toLoadRect.idx j) := by
  unfold kernelRun.sl.v761; exact readCov_of_pieces _ (wL c f2) _ f2 (wL_pieces c f2) (wL_cover c f2)

/-- A load of the array's block at 0, 3072. -/
theorem v782_eq (c : Dev nD) (f2 : S4096x5504.Idx → Elt Ideal .i8) : kernelRun.sl.v782 (F := Ideal) c f2 = fun j => f2 ((Rect.unit (s := S4096x5504) ![0, 3072] S1024x512.size inb_S4096x5504_S1024x512_0_3072).toLoadRect.idx j) := by
  unfold kernelRun.sl.v782; exact readCov_of_pieces _ (wL c f2) _ f2 (wL_pieces c f2) (wL_cover c f2)

/-- A load of the array's block at 1024, 3072. -/
theorem v788_eq (c : Dev nD) (f2 : S4096x5504.Idx → Elt Ideal .i8) : kernelRun.sl.v788 (F := Ideal) c f2 = fun j => f2 ((Rect.unit (s := S4096x5504) ![1024, 3072] S1024x512.size inb_S4096x5504_S1024x512_1024_3072).toLoadRect.idx j) := by
  unfold kernelRun.sl.v788; exact readCov_of_pieces _ (wL c f2) _ f2 (wL_pieces c f2) (wL_cover c f2)

/-- A load of the array's block at 2048, 3072. -/
theorem v795_eq (c : Dev nD) (f2 : S4096x5504.Idx → Elt Ideal .i8) : kernelRun.sl.v795 (F := Ideal) c f2 = fun j => f2 ((Rect.unit (s := S4096x5504) ![2048, 3072] S1024x512.size inb_S4096x5504_S1024x512_2048_3072).toLoadRect.idx j) := by
  unfold kernelRun.sl.v795; exact readCov_of_pieces _ (wL c f2) _ f2 (wL_pieces c f2) (wL_cover c f2)

/-- A load of the array's block at 3072, 3072. -/
theorem v802_eq (c : Dev nD) (f2 : S4096x5504.Idx → Elt Ideal .i8) : kernelRun.sl.v802 (F := Ideal) c f2 = fun j => f2 ((Rect.unit (s := S4096x5504) ![3072, 3072] S1024x512.size inb_S4096x5504_S1024x512_3072_3072).toLoadRect.idx j) := by
  unfold kernelRun.sl.v802; exact readCov_of_pieces _ (wL c f2) _ f2 (wL_pieces c f2) (wL_cover c f2)

/-- A load of the array's block at 0, 3584. -/
theorem v835_eq (c : Dev nD) (f2 : S4096x5504.Idx → Elt Ideal .i8) : kernelRun.sl.v835 (F := Ideal) c f2 = fun j => f2 ((Rect.unit (s := S4096x5504) ![0, 3584] S1024x512.size inb_S4096x5504_S1024x512_0_3584).toLoadRect.idx j) := by
  unfold kernelRun.sl.v835; exact readCov_of_pieces _ (wL c f2) _ f2 (wL_pieces c f2) (wL_cover c f2)

/-- A load of the array's block at 1024, 3584. -/
theorem v841_eq (c : Dev nD) (f2 : S4096x5504.Idx → Elt Ideal .i8) : kernelRun.sl.v841 (F := Ideal) c f2 = fun j => f2 ((Rect.unit (s := S4096x5504) ![1024, 3584] S1024x512.size inb_S4096x5504_S1024x512_1024_3584).toLoadRect.idx j) := by
  unfold kernelRun.sl.v841; exact readCov_of_pieces _ (wL c f2) _ f2 (wL_pieces c f2) (wL_cover c f2)

/-- A load of the array's block at 2048, 3584. -/
theorem v848_eq (c : Dev nD) (f2 : S4096x5504.Idx → Elt Ideal .i8) : kernelRun.sl.v848 (F := Ideal) c f2 = fun j => f2 ((Rect.unit (s := S4096x5504) ![2048, 3584] S1024x512.size inb_S4096x5504_S1024x512_2048_3584).toLoadRect.idx j) := by
  unfold kernelRun.sl.v848; exact readCov_of_pieces _ (wL c f2) _ f2 (wL_pieces c f2) (wL_cover c f2)

/-- A load of the array's block at 3072, 3584. -/
theorem v855_eq (c : Dev nD) (f2 : S4096x5504.Idx → Elt Ideal .i8) : kernelRun.sl.v855 (F := Ideal) c f2 = fun j => f2 ((Rect.unit (s := S4096x5504) ![3072, 3584] S1024x512.size inb_S4096x5504_S1024x512_3072_3584).toLoadRect.idx j) := by
  unfold kernelRun.sl.v855; exact readCov_of_pieces _ (wL c f2) _ f2 (wL_pieces c f2) (wL_cover c f2)

/-- A load of the array's block at 0, 4096. -/
theorem v876_eq (c : Dev nD) (f2 : S4096x5504.Idx → Elt Ideal .i8) : kernelRun.sl.v876 (F := Ideal) c f2 = fun j => f2 ((Rect.unit (s := S4096x5504) ![0, 4096] S1024x512.size inb_S4096x5504_S1024x512_0_4096).toLoadRect.idx j) := by
  unfold kernelRun.sl.v876; exact readCov_of_pieces _ (wL c f2) _ f2 (wL_pieces c f2) (wL_cover c f2)

/-- A load of the array's block at 1024, 4096. -/
theorem v882_eq (c : Dev nD) (f2 : S4096x5504.Idx → Elt Ideal .i8) : kernelRun.sl.v882 (F := Ideal) c f2 = fun j => f2 ((Rect.unit (s := S4096x5504) ![1024, 4096] S1024x512.size inb_S4096x5504_S1024x512_1024_4096).toLoadRect.idx j) := by
  unfold kernelRun.sl.v882; exact readCov_of_pieces _ (wL c f2) _ f2 (wL_pieces c f2) (wL_cover c f2)

/-- A load of the array's block at 2048, 4096. -/
theorem v889_eq (c : Dev nD) (f2 : S4096x5504.Idx → Elt Ideal .i8) : kernelRun.sl.v889 (F := Ideal) c f2 = fun j => f2 ((Rect.unit (s := S4096x5504) ![2048, 4096] S1024x512.size inb_S4096x5504_S1024x512_2048_4096).toLoadRect.idx j) := by
  unfold kernelRun.sl.v889; exact readCov_of_pieces _ (wL c f2) _ f2 (wL_pieces c f2) (wL_cover c f2)

/-- A load of the array's block at 3072, 4096. -/
theorem v896_eq (c : Dev nD) (f2 : S4096x5504.Idx → Elt Ideal .i8) : kernelRun.sl.v896 (F := Ideal) c f2 = fun j => f2 ((Rect.unit (s := S4096x5504) ![3072, 4096] S1024x512.size inb_S4096x5504_S1024x512_3072_4096).toLoadRect.idx j) := by
  unfold kernelRun.sl.v896; exact readCov_of_pieces _ (wL c f2) _ f2 (wL_pieces c f2) (wL_cover c f2)

/-- A load of the array's block at 0, 4608. -/
theorem v917_eq (c : Dev nD) (f2 : S4096x5504.Idx → Elt Ideal .i8) : kernelRun.sl.v917 (F := Ideal) c f2 = fun j => f2 ((Rect.unit (s := S4096x5504) ![0, 4608] S1024x512.size inb_S4096x5504_S1024x512_0_4608).toLoadRect.idx j) := by
  unfold kernelRun.sl.v917; exact readCov_of_pieces _ (wL c f2) _ f2 (wL_pieces c f2) (wL_cover c f2)

/-- A load of the array's block at 1024, 4608. -/
theorem v923_eq (c : Dev nD) (f2 : S4096x5504.Idx → Elt Ideal .i8) : kernelRun.sl.v923 (F := Ideal) c f2 = fun j => f2 ((Rect.unit (s := S4096x5504) ![1024, 4608] S1024x512.size inb_S4096x5504_S1024x512_1024_4608).toLoadRect.idx j) := by
  unfold kernelRun.sl.v923; exact readCov_of_pieces _ (wL c f2) _ f2 (wL_pieces c f2) (wL_cover c f2)

/-- A load of the array's block at 2048, 4608. -/
theorem v930_eq (c : Dev nD) (f2 : S4096x5504.Idx → Elt Ideal .i8) : kernelRun.sl.v930 (F := Ideal) c f2 = fun j => f2 ((Rect.unit (s := S4096x5504) ![2048, 4608] S1024x512.size inb_S4096x5504_S1024x512_2048_4608).toLoadRect.idx j) := by
  unfold kernelRun.sl.v930; exact readCov_of_pieces _ (wL c f2) _ f2 (wL_pieces c f2) (wL_cover c f2)

/-- A load of the array's block at 3072, 4608. -/
theorem v937_eq (c : Dev nD) (f2 : S4096x5504.Idx → Elt Ideal .i8) : kernelRun.sl.v937 (F := Ideal) c f2 = fun j => f2 ((Rect.unit (s := S4096x5504) ![3072, 4608] S1024x512.size inb_S4096x5504_S1024x512_3072_4608).toLoadRect.idx j) := by
  unfold kernelRun.sl.v937; exact readCov_of_pieces _ (wL c f2) _ f2 (wL_pieces c f2) (wL_cover c f2)

/-- A load of the array's block at 0, 5120. -/
theorem v970_eq (c : Dev nD) (f2 : S4096x5504.Idx → Elt Ideal .i8) : kernelRun.sl.v970 (F := Ideal) c f2 = fun j => f2 ((Rect.unit (s := S4096x5504) ![0, 5120] S1024x384.size inb_S4096x5504_S1024x384_0_5120).toLoadRect.idx j) := by
  unfold kernelRun.sl.v970; exact readCov_of_pieces _ (wL c f2) _ f2 (wL_pieces c f2) (wL_cover c f2)

/-- A load of the array's block at 1024, 5120. -/
theorem v976_eq (c : Dev nD) (f2 : S4096x5504.Idx → Elt Ideal .i8) : kernelRun.sl.v976 (F := Ideal) c f2 = fun j => f2 ((Rect.unit (s := S4096x5504) ![1024, 5120] S1024x384.size inb_S4096x5504_S1024x384_1024_5120).toLoadRect.idx j) := by
  unfold kernelRun.sl.v976; exact readCov_of_pieces _ (wL c f2) _ f2 (wL_pieces c f2) (wL_cover c f2)

/-- A load of the array's block at 2048, 5120. -/
theorem v983_eq (c : Dev nD) (f2 : S4096x5504.Idx → Elt Ideal .i8) : kernelRun.sl.v983 (F := Ideal) c f2 = fun j => f2 ((Rect.unit (s := S4096x5504) ![2048, 5120] S1024x384.size inb_S4096x5504_S1024x384_2048_5120).toLoadRect.idx j) := by
  unfold kernelRun.sl.v983; exact readCov_of_pieces _ (wL c f2) _ f2 (wL_pieces c f2) (wL_cover c f2)

/-- A load of the array's block at 3072, 5120. -/
theorem v990_eq (c : Dev nD) (f2 : S4096x5504.Idx → Elt Ideal .i8) : kernelRun.sl.v990 (F := Ideal) c f2 = fun j => f2 ((Rect.unit (s := S4096x5504) ![3072, 5120] S1024x384.size inb_S4096x5504_S1024x384_3072_5120).toLoadRect.idx j) := by
  unfold kernelRun.sl.v990; exact readCov_of_pieces _ (wL c f2) _ f2 (wL_pieces c f2) (wL_cover c f2)

/-- A load of the array's block at 0, 0. -/
theorem v545_eq (c : Dev nD) (f4 : S384x5504.Idx → Elt Ideal .bf16) : kernelRun.sl.v545 (F := Ideal) c f4 = fun j => f4 ((Rect.unit (s := S384x5504) ![0, 0] S384x512.size inb_S384x5504_S384x512_0_0).toLoadRect.idx j) := by
  unfold kernelRun.sl.v545; exact readCov_of_pieces _ (rL c f4) _ f4 (rL_pieces c f4) (rL_cover c f4)

/-- A load of the array's block at 0, 512. -/
theorem v598_eq (c : Dev nD) (f4 : S384x5504.Idx → Elt Ideal .bf16) : kernelRun.sl.v598 (F := Ideal) c f4 = fun j => f4 ((Rect.unit (s := S384x5504) ![0, 512] S384x512.size inb_S384x5504_S384x512_0_512).toLoadRect.idx j) := by
  unfold kernelRun.sl.v598; exact readCov_of_pieces _ (rL c f4) _ f4 (rL_pieces c f4) (rL_cover c f4)

/-- A load of the array's block at 0, 1024. -/
theorem v639_eq (c : Dev nD) (f4 : S384x5504.Idx → Elt Ideal .bf16) : kernelRun.sl.v639 (F := Ideal) c f4 = fun j => f4 ((Rect.unit (s := S384x5504) ![0, 1024] S384x512.size inb_S384x5504_S384x512_0_1024).toLoadRect.idx j) := by
  unfold kernelRun.sl.v639; exact readCov_of_pieces _ (rL c f4) _ f4 (rL_pieces c f4) (rL_cover c f4)

/-- A load of the array's block at 0, 1536. -/
theorem v692_eq (c : Dev nD) (f4 : S384x5504.Idx → Elt Ideal .bf16) : kernelRun.sl.v692 (F := Ideal) c f4 = fun j => f4 ((Rect.unit (s := S384x5504) ![0, 1536] S384x512.size inb_S384x5504_S384x512_0_1536).toLoadRect.idx j) := by
  unfold kernelRun.sl.v692; exact readCov_of_pieces _ (rL c f4) _ f4 (rL_pieces c f4) (rL_cover c f4)

/-- A load of the array's block at 0, 2048. -/
theorem v733_eq (c : Dev nD) (f4 : S384x5504.Idx → Elt Ideal .bf16) : kernelRun.sl.v733 (F := Ideal) c f4 = fun j => f4 ((Rect.unit (s := S384x5504) ![0, 2048] S384x512.size inb_S384x5504_S384x512_0_2048).toLoadRect.idx j) := by
  unfold kernelRun.sl.v733; exact readCov_of_pieces _ (rL c f4) _ f4 (rL_pieces c f4) (rL_cover c f4)

/-- A load of the array's block at 0, 2560. -/
theorem v774_eq (c : Dev nD) (f4 : S384x5504.Idx → Elt Ideal .bf16) : kernelRun.sl.v774 (F := Ideal) c f4 = fun j => f4 ((Rect.unit (s := S384x5504) ![0, 2560] S384x512.size inb_S384x5504_S384x512_0_2560).toLoadRect.idx j) := by
  unfold kernelRun.sl.v774; exact readCov_of_pieces _ (rL c f4) _ f4 (rL_pieces c f4) (rL_cover c f4)

/-- A load of the array's block at 0, 3072. -/
theorem v815_eq (c : Dev nD) (f4 : S384x5504.Idx → Elt Ideal .bf16) : kernelRun.sl.v815 (F := Ideal) c f4 = fun j => f4 ((Rect.unit (s := S384x5504) ![0, 3072] S384x512.size inb_S384x5504_S384x512_0_3072).toLoadRect.idx j) := by
  unfold kernelRun.sl.v815; exact readCov_of_pieces _ (rL c f4) _ f4 (rL_pieces c f4) (rL_cover c f4)

/-- A load of the array's block at 0, 3584. -/
theorem v868_eq (c : Dev nD) (f4 : S384x5504.Idx → Elt Ideal .bf16) : kernelRun.sl.v868 (F := Ideal) c f4 = fun j => f4 ((Rect.unit (s := S384x5504) ![0, 3584] S384x512.size inb_S384x5504_S384x512_0_3584).toLoadRect.idx j) := by
  unfold kernelRun.sl.v868; exact readCov_of_pieces _ (rL c f4) _ f4 (rL_pieces c f4) (rL_cover c f4)

/-- A load of the array's block at 0, 4096. -/
theorem v909_eq (c : Dev nD) (f4 : S384x5504.Idx → Elt Ideal .bf16) : kernelRun.sl.v909 (F := Ideal) c f4 = fun j => f4 ((Rect.unit (s := S384x5504) ![0, 4096] S384x512.size inb_S384x5504_S384x512_0_4096).toLoadRect.idx j) := by
  unfold kernelRun.sl.v909; exact readCov_of_pieces _ (rL c f4) _ f4 (rL_pieces c f4) (rL_cover c f4)

/-- A load of the array's block at 0, 4608. -/
theorem v950_eq (c : Dev nD) (f4 : S384x5504.Idx → Elt Ideal .bf16) : kernelRun.sl.v950 (F := Ideal) c f4 = fun j => f4 ((Rect.unit (s := S384x5504) ![0, 4608] S384x512.size inb_S384x5504_S384x512_0_4608).toLoadRect.idx j) := by
  unfold kernelRun.sl.v950; exact readCov_of_pieces _ (rL c f4) _ f4 (rL_pieces c f4) (rL_cover c f4)

/-- A load of the array's block at 0, 5120. -/
theorem v1003_eq (c : Dev nD) (f4 : S384x5504.Idx → Elt Ideal .bf16) : kernelRun.sl.v1003 (F := Ideal) c f4 = fun j => f4 ((Rect.unit (s := S384x5504) ![0, 5120] S384x384.size inb_S384x5504_S384x384_0_5120).toLoadRect.idx j) := by
  unfold kernelRun.sl.v1003; exact readCov_of_pieces _ (rL c f4) _ f4 (rL_pieces c f4) (rL_cover c f4)

end Cert.KernelIdeal.Hand

end

end
-- ==== Proof.ValI.lean ====
module

public import proofs.«01_k».proof.Proof.Reads
public import Idealize.ShloMosaic.Lib.Pipeline.ValueKit.Tiles

/-! The contents of the kernel's scratch memory: the codes, the same codes as floats, and the scales, row by row. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The activations, the smoothing factors, the weight codes, the weight scales, the residual. -/
abbrev XT : Type := S384x4096.Idx → Elt Ideal .bf16
abbrev ST : Type := S1x4096.Idx → Elt Ideal .f32
abbrev WT : Type := S4096x5504.Idx → Elt Ideal .i8
abbrev WST : Type := S1x5504.Idx → Elt Ideal .f32
abbrev RT : Type := S384x5504.Idx → Elt Ideal .bf16

/-- The row of an array of activations. -/
abbrev xrow (X : XT) (i : Fin 384) : Fin 4096 → EReal := fun k => X (ix2 i k)
/-- The smoothing factors. -/
abbrev srow (s : ST) : Fin 4096 → EReal := fun k => s (ix2 0 k)

/-- The codes. -/
def gC (X : XT) (s : ST) : S384x4096.Idx → Elt Ideal .i8 := fun y => Codes.code8 (xrow X (y 0)) (srow s) (y 1)
/-- The codes as floats. -/
def gL (X : XT) (s : ST) : S384x4096.Idx → Elt Ideal .bf16 := fun y => Codes.codeF (xrow X (y 0)) (srow s) (y 1)
/-- The scales, repeated along 128 lanes. -/
def gS (X : XT) (s : ST) : S384x128.Idx → Elt Ideal .f32 := fun y => Codes.scale (xrow X (y 0)) (srow s)
/-- The scales in one row. -/
def gR (X : XT) (s : ST) : S1x384.Idx → Elt Ideal .f32 := fun y => Codes.scale (xrow X (y 1)) (srow s)
/-- The result. -/
def gY (X : XT) (s : ST) (w : WT) (ws : WST) (r : RT) : S384x5504.Idx → Elt Ideal .bf16 :=
  fun y => Codes.yv (xrow X (y 0)) (srow s) (fun k => w (ix2 k (y 1))) (ws (ix2 0 (y 1))) (r y)

/-- Two indices of a matrix agree when their coordinates do. -/
theorem ext2 {n0 n1 : ℕ} {a b : (⟨2, ![n0, n1]⟩ : Shape).Idx} (h0 : (a 0 : ℕ) = b 0) (h1 : (a 1 : ℕ) = b 1) : a = b := by
  funext i
  match i with
  | 0 => exact Fin.ext h0
  | 1 => exact Fin.ext h1

/-- The smoothing factors as loaded. -/
theorem v26_eq (c : Dev nD) (s : ST) (s1 : Bf (F := Ideal) c (Memref.whole cc0_scratch1)) : kernelRun.sl.v26 (F := Ideal) c s s1 = s := by
  unfold kernelRun.sl.v26 kernelRun.sl.dma0
  rw [View.write_whole_univ]
  funext j
  exact congrArg s (ext2 ((Rect.idx_unit_val _ _ _ _ _).trans (Nat.zero_add _)) ((Rect.idx_unit_val _ _ _ _ _).trans (Nat.zero_add _)))

/-- The codes of 32 rows from row `r0` on. -/
theorem codes_block (X : XT) (s : ST) (r0 : ℕ) (inb) (x : S32x4096.Idx) :
    k0_pay4 (F := Ideal) s (fun j => X ((Rect.unit (s := S384x4096) ![r0, 0] S32x4096.size inb).toLoadRect.idx j)) x
      = gC X s ((Rect.unit (s := S384x4096) ![r0, 0] S32x4096.size inb).emb x) := by
  obtain ⟨i, k, rfl⟩ : ∃ i k, x = ix2 i k := ⟨_, _, eq_ix2 x⟩
  rw [codes_at]
  unfold gC
  congr 1
  · funext k'
    exact congrArg X (ext2 rfl ((Rect.idx_unit_val _ _ _ _ _).trans (Nat.zero_add _)))
  · exact Fin.ext ((Rect.idx_unit_val _ _ _ _ _).trans (Nat.zero_add _)).symm

/-- The codes of 32 rows from row `r0` on, as floats. -/
theorem lhs_block (X : XT) (s : ST) (r0 : ℕ) (inb) (x : S32x4096.Idx) :
    k0_pay5 (F := Ideal) s (fun j => X ((Rect.unit (s := S384x4096) ![r0, 0] S32x4096.size inb).toLoadRect.idx j)) x
      = gL X s ((Rect.unit (s := S384x4096) ![r0, 0] S32x4096.size inb).emb x) := by
  obtain ⟨i, k, rfl⟩ : ∃ i k, x = ix2 i k := ⟨_, _, eq_ix2 x⟩
  rw [lhs_at]
  unfold gL
  congr 1
  · funext k'
    exact congrArg X (ext2 rfl ((Rect.idx_unit_val _ _ _ _ _).trans (Nat.zero_add _)))
  · exact Fin.ext ((Rect.idx_unit_val _ _ _ _ _).trans (Nat.zero_add _)).symm

/-- The scales of 32 rows from row `r0` on. -/
theorem scale_block (X : XT) (s : ST) (r0 : ℕ) (inb inb') (x : S32x128.Idx) :
    k0_pay7 (F := Ideal) (k0_pay6 s (fun j => X ((Rect.unit (s := S384x4096) ![r0, 0] S32x4096.size inb).toLoadRect.idx j))) x
      = gS X s ((Rect.unit (s := S384x128) ![r0, 0] S32x128.size inb').emb x) := by
  obtain ⟨i, l, rfl⟩ : ∃ i l, x = ix2 i l := ⟨_, _, eq_ix2 x⟩
  rw [scale_at]
  unfold gS
  congr 1
  funext k'
  exact congrArg X (ext2 ((Rect.idx_unit_val _ _ _ _ _).trans (Rect.idx_unit_val _ _ _ _ _).symm) ((Rect.idx_unit_val _ _ _ _ _).trans (Nat.zero_add _)))

/-! ### Every block is computed by the same expressions as the first -/

section
variable {F : FTy → Type} [FloatOps F] (s : Vec F S1x4096 .f32) (x : Vec F S32x4096 .bf16)

theorem qC1 : k0_pay11 s x = k0_pay4 s x := rfl
theorem qC2 : k0_pay17 s x = k0_pay4 s x := rfl
theorem qC3 : k0_pay25 (k0_pay20 s x) (k0_pay21 s x) k0_pay22 = k0_pay4 s x := rfl
theorem qC4 : k0_pay32 (k0_pay28 s x) (k0_pay29 s x) kernelRun.sl.cst_88 = k0_pay4 s x := rfl
theorem qC5 : k0_pay39 (k0_pay35 s x) (k0_pay37 s x) = k0_pay4 s x := rfl
theorem qC6 : k0_pay46 (k0_pay45 s x) = k0_pay4 s x := rfl
theorem qC7 : k0_pay52 s x = k0_pay4 s x := rfl
theorem qC8 : k0_pay59 s x = k0_pay4 s x := rfl
theorem qC9 : k0_pay66 s x = k0_pay4 s x := rfl
theorem qC10 : k0_pay73 s x = k0_pay4 s x := rfl
theorem qC11 : k0_pay80 s (k0_pay76 x) = k0_pay4 s x := rfl
theorem qL1 : k0_pay12 s x = k0_pay5 s x := rfl
theorem qL2 : k0_pay18 s x = k0_pay5 s x := rfl
theorem qL3 : k0_pay26 (k0_pay20 s x) (k0_pay21 s x) k0_pay22 = k0_pay5 s x := rfl
theorem qL4 : k0_pay33 (k0_pay28 s x) (k0_pay29 s x) kernelRun.sl.cst_88 = k0_pay5 s x := rfl
theorem qL5 : k0_pay40 (k0_pay35 s x) (k0_pay37 s x) = k0_pay5 s x := rfl
theorem qL6 : k0_pay47 (k0_pay44 s x) = k0_pay5 s x := rfl
theorem qL7 : k0_pay54 (k0_pay53 s x) = k0_pay5 s x := rfl
theorem qL8 : k0_pay61 (k0_pay60 s x) = k0_pay5 s x := rfl
theorem qL9 : k0_pay67 s x = k0_pay5 s x := rfl
theorem qL10 : k0_pay74 s x = k0_pay5 s x := rfl
theorem qL11 : k0_pay81 s (k0_pay76 x) = k0_pay5 s x := rfl
theorem qS1 : k0_pay13 s x = k0_pay7 (k0_pay6 s x) := rfl
theorem qS2 : k0_pay19 s x = k0_pay7 (k0_pay6 s x) := rfl
theorem qS3 : k0_pay27 (k0_pay21 s x) k0_pay22 = k0_pay7 (k0_pay6 s x) := rfl
theorem qS4 : k0_pay34 (k0_pay29 s x) kernelRun.sl.cst_88 = k0_pay7 (k0_pay6 s x) := rfl
theorem qS5 : k0_pay41 (k0_pay36 s x) = k0_pay7 (k0_pay6 s x) := rfl
theorem qS6 : k0_pay48 (k0_pay43 s x) = k0_pay7 (k0_pay6 s x) := rfl
theorem qS7 : k0_pay55 (k0_pay50 s x) = k0_pay7 (k0_pay6 s x) := rfl
theorem qS8 : k0_pay62 (k0_pay57 s x) = k0_pay7 (k0_pay6 s x) := rfl
theorem qS9 : k0_pay69 (k0_pay68 s x) = k0_pay7 (k0_pay6 s x) := rfl
theorem qS10 : k0_pay75 s x = k0_pay7 (k0_pay6 s x) := rfl
theorem qS11 : k0_pay82 s (k0_pay76 x) = k0_pay7 (k0_pay6 s x) := rfl

end

/-- Each block of codes written agrees with the whole. -/
theorem S6_pieces (c : Dev nD) (X : XT) (s : ST) (s1 : Bf (F := Ideal) c (Memref.whole cc0_scratch1)) :
    ∀ pc ∈ kernelRun.sl.S6_12 (F := Ideal) c X s s1, ∀ x, pc.2 x = gC X s (pc.1.emb x) := by
  simp only [kernelRun.sl.S6_12, kernelRun.sl.S6_11, kernelRun.sl.S6_10, kernelRun.sl.S6_9, kernelRun.sl.S6_8, kernelRun.sl.S6_6, kernelRun.sl.S6_5, kernelRun.sl.S6_4, kernelRun.sl.S6_3, kernelRun.sl.S6_2, kernelRun.sl.S6_1, List.forall_mem_cons]
  refine ⟨fun x => ?_, fun x => ?_, fun x => ?_, fun x => ?_, fun x => ?_, fun x => ?_, fun x => ?_, fun x => ?_, fun x => ?_, fun x => ?_, fun x => ?_, fun x => ?_, fun _ h => absurd h List.not_mem_nil⟩
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qC11, v26_eq, v413_eq]; exact codes_block X s 352 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qC10, v26_eq, v379_eq]; exact codes_block X s 320 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qC9, v26_eq, v345_eq]; exact codes_block X s 288 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qC8, v26_eq, v311_eq]; exact codes_block X s 256 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qC7, v26_eq, v273_eq]; exact codes_block X s 224 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qC6, v26_eq, v239_eq]; exact codes_block X s 192 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qC5, v26_eq, v205_eq]; exact codes_block X s 160 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qC4, v26_eq, v171_eq]; exact codes_block X s 128 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qC3, v26_eq, v133_eq]; exact codes_block X s 96 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qC2, v26_eq, v_eq]; exact codes_block X s 64 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qC1, v26_eq, v65_eq]; exact codes_block X s 32 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [v26_eq, v31_eq]; exact codes_block X s 0 _ x

/-- The blocks of codes cover the buffer. -/
theorem S6_cover (c : Dev nD) (X : XT) (s : ST) (s1 : Bf (F := Ideal) c (Memref.whole cc0_scratch1)) :
    ∀ y, ∃ pc ∈ kernelRun.sl.S6_12 (F := Ideal) c X s s1, y ∈ pc.1.set :=
  View.cover_of_tiledBy _ ![32, 4096] (by sl_kernel_rfl)

/-- Each block of codes as floats written agrees with the whole. -/
theorem S7_pieces (c : Dev nD) (X : XT) (s : ST) (s1 : Bf (F := Ideal) c (Memref.whole cc0_scratch1)) :
    ∀ pc ∈ kernelRun.sl.S7_12 (F := Ideal) c X s s1, ∀ x, pc.2 x = gL X s (pc.1.emb x) := by
  simp only [kernelRun.sl.S7_12, kernelRun.sl.S7_11, kernelRun.sl.S7_10, kernelRun.sl.S7_8, kernelRun.sl.S7_7, kernelRun.sl.S7_6, kernelRun.sl.S7_5, kernelRun.sl.S7_4, kernelRun.sl.S7_3, kernelRun.sl.S7_2, kernelRun.sl.S7_1, List.forall_mem_cons]
  refine ⟨fun x => ?_, fun x => ?_, fun x => ?_, fun x => ?_, fun x => ?_, fun x => ?_, fun x => ?_, fun x => ?_, fun x => ?_, fun x => ?_, fun x => ?_, fun x => ?_, fun _ h => absurd h List.not_mem_nil⟩
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qL11, v26_eq, v413_eq]; exact lhs_block X s 352 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qL10, v26_eq, v379_eq]; exact lhs_block X s 320 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qL9, v26_eq, v345_eq]; exact lhs_block X s 288 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qL8, v26_eq, v311_eq]; exact lhs_block X s 256 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qL7, v26_eq, v273_eq]; exact lhs_block X s 224 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qL6, v26_eq, v239_eq]; exact lhs_block X s 192 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qL5, v26_eq, v205_eq]; exact lhs_block X s 160 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qL4, v26_eq, v171_eq]; exact lhs_block X s 128 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qL3, v26_eq, v133_eq]; exact lhs_block X s 96 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qL2, v26_eq, v_eq]; exact lhs_block X s 64 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qL1, v26_eq, v65_eq]; exact lhs_block X s 32 _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [v26_eq, v31_eq]; exact lhs_block X s 0 _ x

/-- The blocks of codes as floats cover the buffer. -/
theorem S7_cover (c : Dev nD) (X : XT) (s : ST) (s1 : Bf (F := Ideal) c (Memref.whole cc0_scratch1)) :
    ∀ y, ∃ pc ∈ kernelRun.sl.S7_12 (F := Ideal) c X s s1, y ∈ pc.1.set :=
  View.cover_of_tiledBy _ ![32, 4096] (by sl_kernel_rfl)

/-- Each block of scales written agrees with the whole. -/
theorem S8_pieces (c : Dev nD) (X : XT) (s : ST) (s1 : Bf (F := Ideal) c (Memref.whole cc0_scratch1)) :
    ∀ pc ∈ kernelRun.sl.S8_12 (F := Ideal) c X s s1, ∀ x, pc.2 x = gS X s (pc.1.emb x) := by
  simp only [kernelRun.sl.S8_12, kernelRun.sl.S8_11, kernelRun.sl.S8_9, kernelRun.sl.S8_8, kernelRun.sl.S8_7, kernelRun.sl.S8_6, kernelRun.sl.S8_5, kernelRun.sl.S8_4, kernelRun.sl.S8_3, kernelRun.sl.S8_2, List.forall_mem_cons]
  refine ⟨fun x => ?_, fun x => ?_, fun x => ?_, fun x => ?_, fun x => ?_, fun x => ?_, fun x => ?_, fun x => ?_, fun x => ?_, fun x => ?_, fun x => ?_, fun x => ?_, fun _ h => absurd h List.not_mem_nil⟩
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qS11, v26_eq, v413_eq]; exact scale_block X s 352 _ _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qS10, v26_eq, v379_eq]; exact scale_block X s 320 _ _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qS9, v26_eq, v345_eq]; exact scale_block X s 288 _ _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qS8, v26_eq, v311_eq]; exact scale_block X s 256 _ _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qS7, v26_eq, v273_eq]; exact scale_block X s 224 _ _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qS6, v26_eq, v239_eq]; exact scale_block X s 192 _ _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qS5, v26_eq, v205_eq]; exact scale_block X s 160 _ _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qS4, v26_eq, v171_eq]; exact scale_block X s 128 _ _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qS3, v26_eq, v133_eq]; exact scale_block X s 96 _ _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qS2, v26_eq, v_eq]; exact scale_block X s 64 _ _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [qS1, v26_eq, v65_eq]; exact scale_block X s 32 _ _ x
  · try simp only [kernelRun.sl.r, kernelRun.sl.r_1, kernelRun.sl.r_2, kernelRun.sl.r_3, kernelRun.sl.r_4, kernelRun.sl.r_5, kernelRun.sl.r_6, kernelRun.sl.r_7, kernelRun.sl.r_8, kernelRun.sl.r_9, kernelRun.sl.r_10, kernelRun.sl.r_11, kernelRun.sl.r_12, kernelRun.sl.r_13, kernelRun.sl.r_14, kernelRun.sl.r_15, kernelRun.sl.r_16]
    rw [v26_eq, v31_eq]; exact scale_block X s 0 _ _ x

/-- The blocks of scales cover the buffer. -/
theorem S8_cover (c : Dev nD) (X : XT) (s : ST) (s1 : Bf (F := Ideal) c (Memref.whole cc0_scratch1)) :
    ∀ y, ∃ pc ∈ kernelRun.sl.S8_12 (F := Ideal) c X s s1, y ∈ pc.1.set :=
  View.cover_of_tiledBy _ ![32, 128] (by sl_kernel_rfl)

/-- The codes as floats, 1024 columns from column 0 on. -/
theorem v511_eq (c : Dev nD) (X : XT) (s : ST) (s1 : Bf (F := Ideal) c (Memref.whole cc0_scratch1)) :
    kernelRun.sl.v511 (F := Ideal) c X s s1 = fun j => gL X s ((Rect.unit (s := S384x4096) ![0, 0] S384x1024.size inb_S384x4096_S384x1024_0_0).toLoadRect.idx j) := by
  unfold kernelRun.sl.v511; exact readCov_of_pieces _ _ _ _ (S7_pieces c X s s1) (S7_cover c X s s1)

/-- The codes as floats, 1024 columns from column 1024 on. -/
theorem v517_eq (c : Dev nD) (X : XT) (s : ST) (s1 : Bf (F := Ideal) c (Memref.whole cc0_scratch1)) :
    kernelRun.sl.v517 (F := Ideal) c X s s1 = fun j => gL X s ((Rect.unit (s := S384x4096) ![0, 1024] S384x1024.size inb_S384x4096_S384x1024_0_1024).toLoadRect.idx j) := by
  unfold kernelRun.sl.v517; exact readCov_of_pieces _ _ _ _ (S7_pieces c X s s1) (S7_cover c X s s1)

/-- The codes as floats, 1024 columns from column 2048 on. -/
theorem v524_eq (c : Dev nD) (X : XT) (s : ST) (s1 : Bf (F := Ideal) c (Memref.whole cc0_scratch1)) :
    kernelRun.sl.v524 (F := Ideal) c X s s1 = fun j => gL X s ((Rect.unit (s := S384x4096) ![0, 2048] S384x1024.size inb_S384x4096_S384x1024_0_2048).toLoadRect.idx j) := by
  unfold kernelRun.sl.v524; exact readCov_of_pieces _ _ _ _ (S7_pieces c X s s1) (S7_cover c X s s1)

/-- The codes as floats, 1024 columns from column 3072 on. -/
theorem v531_eq (c : Dev nD) (X : XT) (s : ST) (s1 : Bf (F := Ideal) c (Memref.whole cc0_scratch1)) :
    kernelRun.sl.v531 (F := Ideal) c X s s1 = fun j => gL X s ((Rect.unit (s := S384x4096) ![0, 3072] S384x1024.size inb_S384x4096_S384x1024_0_3072).toLoadRect.idx j) := by
  unfold kernelRun.sl.v531; exact readCov_of_pieces _ _ _ _ (S7_pieces c X s s1) (S7_cover c X s s1)

/-- The scales. -/
theorem v538_eq (c : Dev nD) (X : XT) (s : ST) (s1 : Bf (F := Ideal) c (Memref.whole cc0_scratch1)) :
    kernelRun.sl.v538 (F := Ideal) c X s s1 = gS X s := by
  unfold kernelRun.sl.v538
  rw [readCov_of_pieces _ _ _ _ (S8_pieces c X s s1) (S8_cover c X s s1)]
  funext j
  exact congrArg (gS X s) (ext2 ((Rect.idx_unit_val _ _ _ _ _).trans (Nat.zero_add _)) ((Rect.idx_unit_val _ _ _ _ _).trans (Nat.zero_add _)))

/-- The scales of 128 rows from row 0 on. -/
theorem v447_at (c : Dev nD) (X : XT) (s : ST) (s1 : Bf (F := Ideal) c (Memref.whole cc0_scratch1)) (i l : Fin 128) :
    kernelRun.sl.v447 (F := Ideal) c X s s1 (ix2 i l) = Codes.scale (xrow X ⟨0 + i, by omega⟩) (srow s) := by
  unfold kernelRun.sl.v447
  rw [readCov_of_pieces _ _ _ _ (S8_pieces c X s s1) (S8_cover c X s s1)]
  exact congrArg (fun i => Codes.scale (xrow X i) (srow s)) (Fin.ext (Rect.idx_unit_val _ _ _ _ _))

/-- The scales of 128 rows from row 128 on. -/
theorem v453_at (c : Dev nD) (X : XT) (s : ST) (s1 : Bf (F := Ideal) c (Memref.whole cc0_scratch1)) (i l : Fin 128) :
    kernelRun.sl.v453 (F := Ideal) c X s s1 (ix2 i l) = Codes.scale (xrow X ⟨128 + i, by omega⟩) (srow s) := by
  unfold kernelRun.sl.v453
  rw [readCov_of_pieces _ _ _ _ (S8_pieces c X s s1) (S8_cover c X s s1)]
  exact congrArg (fun i => Codes.scale (xrow X i) (srow s)) (Fin.ext (Rect.idx_unit_val _ _ _ _ _))

/-- The scales of 128 rows from row 256 on. -/
theorem v459_at (c : Dev nD) (X : XT) (s : ST) (s1 : Bf (F := Ideal) c (Memref.whole cc0_scratch1)) (i l : Fin 128) :
    kernelRun.sl.v459 (F := Ideal) c X s s1 (ix2 i l) = Codes.scale (xrow X ⟨256 + i, by omega⟩) (srow s) := by
  unfold kernelRun.sl.v459
  rw [readCov_of_pieces _ _ _ _ (S8_pieces c X s s1) (S8_cover c X s s1)]
  exact congrArg (fun i => Codes.scale (xrow X i) (srow s)) (Fin.ext (Rect.idx_unit_val _ _ _ _ _))

/-- Each stretch of the row of scales agrees with the whole. -/
theorem S9_pieces (c : Dev nD) (X : XT) (s : ST) (s1 : Bf (F := Ideal) c (Memref.whole cc0_scratch1)) :
    ∀ pc ∈ kernelRun.sl.S9_3 (F := Ideal) c X s s1, ∀ x, pc.2 x = gR X s (pc.1.emb x) := by
  simp only [kernelRun.sl.S9_3, kernelRun.sl.S9_1, List.forall_mem_cons]
  refine ⟨fun x => ?_, fun x => ?_, fun x => ?_, fun _ h => absurd h List.not_mem_nil⟩
  · obtain ⟨z, k, rfl⟩ : ∃ z k, x = ix2 z k := ⟨_, _, eq_ix2 x⟩
    obtain rfl : z = 0 := Subsingleton.elim _ _
    show k0_pay83 (F := Ideal) (kernelRun.sl.v459 (F := Ideal) c X s s1) (ix2 0 k) = _
    rw [srow_at, v459_at]
    exact congrArg (fun i => Codes.scale (xrow X i) (srow s)) (Fin.ext (Rect.idx_unit_val (s := S1x384) ![0, 256] S1x128.size (by decide) (ix2 0 k) 1).symm)
  · obtain ⟨z, k, rfl⟩ : ∃ z k, x = ix2 z k := ⟨_, _, eq_ix2 x⟩
    obtain rfl : z = 0 := Subsingleton.elim _ _
    show k0_pay83 (F := Ideal) (kernelRun.sl.v453 (F := Ideal) c X s s1) (ix2 0 k) = _
    rw [srow_at, v453_at]
    exact congrArg (fun i => Codes.scale (xrow X i) (srow s)) (Fin.ext (Rect.idx_unit_val (s := S1x384) ![0, 128] S1x128.size (by decide) (ix2 0 k) 1).symm)
  · obtain ⟨z, k, rfl⟩ : ∃ z k, x = ix2 z k := ⟨_, _, eq_ix2 x⟩
    obtain rfl : z = 0 := Subsingleton.elim _ _
    show k0_pay83 (F := Ideal) (kernelRun.sl.v447 (F := Ideal) c X s s1) (ix2 0 k) = _
    rw [srow_at, v447_at]
    exact congrArg (fun i => Codes.scale (xrow X i) (srow s)) (Fin.ext (Rect.idx_unit_val (s := S1x384) ![0, 0] S1x128.size (by decide) (ix2 0 k) 1).symm)

/-- The stretches cover the row. -/
theorem S9_cover (c : Dev nD) (X : XT) (s : ST) (s1 : Bf (F := Ideal) c (Memref.whole cc0_scratch1)) :
    ∀ y, ∃ pc ∈ kernelRun.sl.S9_3 (F := Ideal) c X s s1, y ∈ pc.1.set :=
  View.cover_of_tiledBy _ ![1, 128] (by sl_kernel_rfl)

end Cert.KernelIdeal.Hand

end

end
-- ==== Proof.ValY.lean ====
module

public import proofs.«01_k».proof.Proof.ValI

/-! The result the kernel leaves: eleven groups of columns, brought out by five copies. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- A code as a float, by the values of the coordinates. -/
theorem gL_at (X : XT) (s : ST) (y : S384x4096.Idx) (i : Fin 384) (k : Fin 4096) (h0 : (y 0 : ℕ) = i) (h1 : (y 1 : ℕ) = k) :
    gL X s y = Codes.codeF (xrow X i) (srow s) k := by
  rw [show y = ix2 i k from ext2 h0 h1]; rfl

/-- A scale, by the value of the row. -/
theorem gS_at (X : XT) (s : ST) (y : S384x128.Idx) (i : Fin 384) (h0 : (y 0 : ℕ) = i) : gS X s y = Codes.scale (xrow X i) (srow s) := by
  rw [show y = ix2 i (y 1) from ext2 h0 rfl]; rfl

/-- A group of 512 columns from column `n0` on. -/
theorem y512_block (X : XT) (s : ST) (w : WT) (ws : WST) (r : RT) (n0 : ℕ) (q0 q1 q2 q3 p0 p1 p2 p3 pw pr) (x : S384x512.Idx) :
    k0_pay87 (F := Ideal) (k0_pay86 (fun j => gL X s ((Rect.unit (s := S384x4096) ![0, 0] S384x1024.size q0).toLoadRect.idx j)) (fun j => w ((Rect.unit (s := S4096x5504) ![0, n0] S1024x512.size p0).toLoadRect.idx j)) (fun j => gL X s ((Rect.unit (s := S384x4096) ![0, 1024] S384x1024.size q1).toLoadRect.idx j)) (fun j => w ((Rect.unit (s := S4096x5504) ![1024, n0] S1024x512.size p1).toLoadRect.idx j)) (fun j => gL X s ((Rect.unit (s := S384x4096) ![0, 2048] S384x1024.size q2).toLoadRect.idx j)) (fun j => w ((Rect.unit (s := S4096x5504) ![2048, n0] S1024x512.size p2).toLoadRect.idx j)) (fun j => gL X s ((Rect.unit (s := S384x4096) ![0, 3072] S384x1024.size q3).toLoadRect.idx j)) (fun j => w ((Rect.unit (s := S4096x5504) ![3072, n0] S1024x512.size p3).toLoadRect.idx j))) (gS X s) (fun j => ws ((Rect.unit (s := S1x5504) ![0, n0] S1x512.size pw).toLoadRect.idx j)) (fun j => r ((Rect.unit (s := S384x5504) ![0, n0] S384x512.size pr).toLoadRect.idx j)) x
      = gY X s w ws r ((Rect.unit (s := S384x5504) ![0, n0] S384x512.size pr).emb x) := by
  obtain ⟨i, n, rfl⟩ : ∃ i n, x = ix2 i n := ⟨_, _, eq_ix2 x⟩
  have hi : (Rect.unit (s := S384x5504) ![0, n0] S384x512.size pr).emb (ix2 i n) 0 = i := Fin.ext ((Rect.idx_unit_val _ _ _ _ _).trans (Nat.zero_add _))
  refine (y512_at _ _ _ _ _ _ _ _ _ _ _ i n (xrow X i) (srow s) (fun k => w (ix2 k ((Rect.unit (s := S384x5504) ![0, n0] S384x512.size pr).emb (ix2 i n) 1)))
    (fun k => ?_) (fun k => ?_) (fun k => ?_) (fun k => ?_) (fun k => ?_) (fun k => ?_) (fun k => ?_) (fun k => ?_) (fun l => ?_)).trans ?_
  · exact gL_at X s _ _ _ ((Rect.idx_unit_val _ _ _ _ _).trans (Nat.zero_add _)) (Rect.idx_unit_val _ _ _ _ _)
  · exact gL_at X s _ _ _ ((Rect.idx_unit_val _ _ _ _ _).trans (Nat.zero_add _)) (Rect.idx_unit_val _ _ _ _ _)
  · exact gL_at X s _ _ _ ((Rect.idx_unit_val _ _ _ _ _).trans (Nat.zero_add _)) (Rect.idx_unit_val _ _ _ _ _)
  · exact gL_at X s _ _ _ ((Rect.idx_unit_val _ _ _ _ _).trans (Nat.zero_add _)) (Rect.idx_unit_val _ _ _ _ _)
  · exact congrArg w (ext2 (Rect.idx_unit_val _ _ _ _ _) rfl)
  · exact congrArg w (ext2 (Rect.idx_unit_val _ _ _ _ _) rfl)
  · exact congrArg w (ext2 (Rect.idx_unit_val _ _ _ _ _) rfl)
  · exact congrArg w (ext2 (Rect.idx_unit_val _ _ _ _ _) rfl)
  · exact gS_at X s _ _ rfl
  · unfold gY
    rw [hi]
    congr 1
    exact congrArg ws (ext2 rfl rfl)

/-- A group of 384 columns from column `n0` on. -/
theorem y384_block (X : XT) (s : ST) (w : WT) (ws : WST) (r : RT) (n0 : ℕ) (q0 q1 q2 q3 p0 p1 p2 p3 pw pr) (x : S384x384.Idx) :
    k0_pay112 (F := Ideal) (k0_pay111 (fun j => gL X s ((Rect.unit (s := S384x4096) ![0, 0] S384x1024.size q0).toLoadRect.idx j)) (k0_pay110 (fun j => w ((Rect.unit (s := S4096x5504) ![0, n0] S1024x384.size p0).toLoadRect.idx j))) (constant S384x384 .f32 0x00000000#32) (fun j => gL X s ((Rect.unit (s := S384x4096) ![0, 1024] S384x1024.size q1).toLoadRect.idx j)) (fun j => w ((Rect.unit (s := S4096x5504) ![1024, n0] S1024x384.size p1).toLoadRect.idx j)) (fun j => gL X s ((Rect.unit (s := S384x4096) ![0, 2048] S384x1024.size q2).toLoadRect.idx j)) (fun j => w ((Rect.unit (s := S4096x5504) ![2048, n0] S1024x384.size p2).toLoadRect.idx j)) (fun j => gL X s ((Rect.unit (s := S384x4096) ![0, 3072] S384x1024.size q3).toLoadRect.idx j)) (fun j => w ((Rect.unit (s := S4096x5504) ![3072, n0] S1024x384.size p3).toLoadRect.idx j)) (gS X s) (fun j => ws ((Rect.unit (s := S1x5504) ![0, n0] S1x384.size pw).toLoadRect.idx j)) (fun j => r ((Rect.unit (s := S384x5504) ![0, n0] S384x384.size pr).toLoadRect.idx j))) x
      = gY X s w ws r ((Rect.unit (s := S384x5504) ![0, n0] S384x384.size pr).emb x) := by
  obtain ⟨i, n, rfl⟩ : ∃ i n, x = ix2 i n := ⟨_, _, eq_ix2 x⟩
  have hi : (Rect.unit (s := S384x5504) ![0, n0] S384x384.size pr).emb (ix2 i n) 0 = i := Fin.ext ((Rect.idx_unit_val _ _ _ _ _).trans (Nat.zero_add _))
  refine (y384_at _ _ _ _ _ _ _ _ _ _ _ i n (xrow X i) (srow s) (fun k => w (ix2 k ((Rect.unit (s := S384x5504) ![0, n0] S384x384.size pr).emb (ix2 i n) 1)))
    (fun k => ?_) (fun k => ?_) (fun k => ?_) (fun k => ?_) (fun k => ?_) (fun k => ?_) (fun k => ?_) (fun k => ?_) (fun l => ?_)).trans ?_
  · exact gL_at X s _ _ _ ((Rect.idx_unit_val _ _ _ _ _).trans (Nat.zero_add _)) (Rect.idx_unit_val _ _ _ _ _)
  · exact gL_at X s _ _ _ ((Rect.idx_unit_val _ _ _ _ _).trans (Nat.zero_add _)) (Rect.idx_unit_val _ _ _ _ _)
  · exact gL_at X s _ _ _ ((Rect.idx_unit_val _ _ _ _ _).trans (Nat.zero_add _)) (Rect.idx_unit_val _ _ _ _ _)
  · exact gL_at X s _ _ _ ((Rect.idx_unit_val _ _ _ _ _).trans (Nat.zero_add _)) (Rect.idx_unit_val _ _ _ _ _)
  · exact congrArg w (ext2 (Rect.idx_unit_val _ _ _ _ _) rfl)
  · exact congrArg w (ext2 (Rect.idx_unit_val _ _ _ _ _) rfl)
  · exact congrArg w (ext2 (Rect.idx_unit_val _ _ _ _ _) rfl)
  · exact congrArg w (ext2 (Rect.idx_unit_val _ _ _ _ _) rfl)
  · exact gS_at X s _ _ rfl
  · unfold gY
    rw [hi]
    congr 1
    exact congrArg ws (ext2 rfl rfl)

/-! ### Every group is computed by the same expressions as the first -/

section
variable {F : FTy → Type} [FloatOps F] (l0 l1 l2 l3 : Vec F S384x1024 .bf16) (w0 w1 w2 w3 : Vec F S1024x512 .i8) (sc : Vec F S384x128 .f32) (ws : Vec F S1x512 .f32) (r : Vec F S384x512 .bf16)

theorem qY1 : k0_pay90 (k0_pay89 l0 (k0_pay88 w0) kernelRun.sl.cst_297 l1 w1 l2 w2 l3 w3 sc ws r) = k0_pay87 (k0_pay86 l0 w0 l1 w1 l2 w2 l3 w3) sc ws r := rfl
theorem qY2 : k0_pay92 (k0_pay91 l0 w0 l1 w1 l2 w2 l3 w3 sc ws) r = k0_pay87 (k0_pay86 l0 w0 l1 w1 l2 w2 l3 w3) sc ws r := rfl
theorem qY3 : k0_pay95 (k0_pay93 l0 w0) l1 (k0_pay94 w1) l2 w2 l3 w3 sc ws r = k0_pay87 (k0_pay86 l0 w0 l1 w1 l2 w2 l3 w3) sc ws r := rfl
theorem qY4 : k0_pay98 (k0_pay97 l0 (k0_pay96 w0) kernelRun.sl.cst_297 l1 w1 l2 w2 l3 w3 sc ws r) = k0_pay87 (k0_pay86 l0 w0 l1 w1 l2 w2 l3 w3) sc ws r := rfl
theorem qY5 : k0_pay100 (k0_pay99 l0 w0 l1 w1 l2 w2 l3 w3 sc ws) r = k0_pay87 (k0_pay86 l0 w0 l1 w1 l2 w2 l3 w3) sc ws r := rfl
theorem qY6 : k0_pay102 (k0_pay101 l0 w0 l1 w1 l2 w2 l3 w3) sc ws r = k0_pay87 (k0_pay86 l0 w0 l1 w1 l2 w2 l3 w3) sc ws r := rfl
theorem qY7 : k0_pay105 (k0_pay104 l0 (k0_pay103 w0) kernelRun.sl.cst_297 l1 w1 l2 w2 l3 w3 sc ws r) = k0_pay87 (k0_pay86 l0 w0 l1 w1 l2 w2 l3 w3) sc ws r := rfl
theorem qY8 : k0_pay107 (k0_pay106 l0 w0 l1 w1 l2 w2 l3 w3 sc ws) r = k0_pay87 (k0_pay86 l0 w0 l1 w1 l2 w2 l3 w3) sc ws r := rfl
theorem qY9 : k0_pay109 (k0_pay108 l0 w0 l1 w1 l2 w2 l3 w3) sc ws r = k0_pay87 (k0_pay86 l0 w0 l1 w1 l2 w2 l3 w3) sc ws r := rfl

end

/-- The weight scales of the columns from 0 on. -/
theorem v542_eq (c : Dev nD) (ws : WST) (s3 : Bf (F := Ideal) c (Memref.whole cc0_scratch3)) :
    kernelRun.sl.v542 (F := Ideal) c ws s3 = fun j => ws ((Rect.unit (s := S1x5504) ![0, 0] S1x512.size inb_S1x5504_S1x512_0_0).toLoadRect.idx j) := by
  unfold kernelRun.sl.v542 kernelRun.sl.dma0_4; rw [View.write_whole_univ]; rfl

/-- The weight scales of the columns from 512 on. -/
theorem v595_eq (c : Dev nD) (ws : WST) (s3 : Bf (F := Ideal) c (Memref.whole cc0_scratch3)) :
    kernelRun.sl.v595 (F := Ideal) c ws s3 = fun j => ws ((Rect.unit (s := S1x5504) ![0, 512] S1x512.size inb_S1x5504_S1x512_0_512).toLoadRect.idx j) := by
  unfold kernelRun.sl.v595 kernelRun.sl.dma0_4; rw [View.write_whole_univ]; rfl

/-- The weight scales of the columns from 1024 on. -/
theorem v636_eq (c : Dev nD) (ws : WST) (s3 : Bf (F := Ideal) c (Memref.whole cc0_scratch3)) :
    kernelRun.sl.v636 (F := Ideal) c ws s3 = fun j => ws ((Rect.unit (s := S1x5504) ![0, 1024] S1x512.size inb_S1x5504_S1x512_0_1024).toLoadRect.idx j) := by
  unfold kernelRun.sl.v636 kernelRun.sl.dma0_4; rw [View.write_whole_univ]; rfl

/-- The weight scales of the columns from 1536 on. -/
theorem v689_eq (c : Dev nD) (ws : WST) (s3 : Bf (F := Ideal) c (Memref.whole cc0_scratch3)) :
    kernelRun.sl.v689 (F := Ideal) c ws s3 = fun j => ws ((Rect.unit (s := S1x5504) ![0, 1536] S1x512.size inb_S1x5504_S1x512_0_1536).toLoadRect.idx j) := by
  unfold kernelRun.sl.v689 kernelRun.sl.dma0_4; rw [View.write_whole_univ]; rfl

/-- The weight scales of the columns from 2048 on. -/
theorem v730_eq (c : Dev nD) (ws : WST) (s3 : Bf (F := Ideal) c (Memref.whole cc0_scratch3)) :
    kernelRun.sl.v730 (F := Ideal) c ws s3 = fun j => ws ((Rect.unit (s := S1x5504) ![0, 2048] S1x512.size inb_S1x5504_S1x512_0_2048).toLoadRect.idx j) := by
  unfold kernelRun.sl.v730 kernelRun.sl.dma0_4; rw [View.write_whole_univ]; rfl

/-- The weight scales of the columns from 2560 on. -/
theorem v771_eq (c : Dev nD) (ws : WST) (s3 : Bf (F := Ideal) c (Memref.whole cc0_scratch3)) :
    kernelRun.sl.v771 (F := Ideal) c ws s3 = fun j => ws ((Rect.unit (s := S1x5504) ![0, 2560] S1x512.size inb_S1x5504_S1x512_0_2560).toLoadRect.idx j) := by
  unfold kernelRun.sl.v771 kernelRun.sl.dma0_4; rw [View.write_whole_univ]; rfl

/-- The weight scales of the columns from 3072 on. -/
theorem v812_eq (c : Dev nD) (ws : WST) (s3 : Bf (F := Ideal) c (Memref.whole cc0_scratch3)) :
    kernelRun.sl.v812 (F := Ideal) c ws s3 = fun j => ws ((Rect.unit (s := S1x5504) ![0, 3072] S1x512.size inb_S1x5504_S1x512_0_3072).toLoadRect.idx j) := by
  unfold kernelRun.sl.v812 kernelRun.sl.dma0_4; rw [View.write_whole_univ]; rfl

/-- The weight scales of the columns from 3584 on. -/
theorem v865_eq (c : Dev nD) (ws : WST) (s3 : Bf (F := Ideal) c (Memref.whole cc0_scratch3)) :
    kernelRun.sl.v865 (F := Ideal) c ws s3 = fun j => ws ((Rect.unit (s := S1x5504) ![0, 3584] S1x512.size inb_S1x5504_S1x512_0_3584).toLoadRect.idx j) := by
  unfold kernelRun.sl.v865 kernelRun.sl.dma0_4; rw [View.write_whole_univ]; rfl

/-- The weight scales of the columns from 4096 on. -/
theorem v906_eq (c : Dev nD) (ws : WST) (s3 : Bf (F := Ideal) c (Memref.whole cc0_scratch3)) :
    kernelRun.sl.v906 (F := Ideal) c ws s3 = fun j => ws ((Rect.unit (s := S1x5504) ![0, 4096] S1x512.size inb_S1x5504_S1x512_0_4096).toLoadRect.idx j) := by
  unfold kernelRun.sl.v906 kernelRun.sl.dma0_4; rw [View.write_whole_univ]; rfl

/-- The weight scales of the columns from 4608 on. -/
theorem v947_eq (c : Dev nD) (ws : WST) (s3 : Bf (F := Ideal) c (Memref.whole cc0_scratch3)) :
    kernelRun.sl.v947 (F := Ideal) c ws s3 = fun j => ws ((Rect.unit (s := S1x5504) ![0, 4608] S1x512.size inb_S1x5504_S1x512_0_4608).toLoadRect.idx j) := by
  unfold kernelRun.sl.v947 kernelRun.sl.dma0_4; rw [View.write_whole_univ]; rfl

/-- The weight scales of the columns from 5120 on. -/
theorem v1000_eq (c : Dev nD) (ws : WST) (s3 : Bf (F := Ideal) c (Memref.whole cc0_scratch3)) :
    kernelRun.sl.v1000 (F := Ideal) c ws s3 = fun j => ws ((Rect.unit (s := S1x5504) ![0, 5120] S1x384.size inb_S1x5504_S1x384_0_5120).toLoadRect.idx j) := by
  unfold kernelRun.sl.v1000 kernelRun.sl.dma0_4; rw [View.write_whole_univ]; rfl

/-- One more group of columns on the list covers as many columns more. -/
theorem cover_cons (L : List (View.Piece (Elt Ideal) S384x5504 .bf16)) (a n b : ℕ) (inb) (v)
    (hL : ∀ y : S384x5504.Idx, (y 1 : ℕ) < a → ∃ pc ∈ L, y ∈ pc.1.set) (hb : b = a + n) (y : S384x5504.Idx) (hy : (y 1 : ℕ) < b) :
    ∃ pc ∈ ((⟨Rect.unit (s := S384x5504) ![0, a] ![384, n] inb, v⟩ : View.Piece (Elt Ideal) S384x5504 .bf16) :: L), y ∈ pc.1.set := by
  by_cases h : (y 1 : ℕ) < a
  · obtain ⟨pc, hm, hp⟩ := hL y h
    exact ⟨pc, List.mem_cons_of_mem _ hm, hp⟩
  · refine ⟨_, List.mem_cons_self, (Rect.mem_set_unit (inb := inb)).mpr (Fin.forall_fin_two.mpr ⟨⟨Nat.zero_le _, ?_⟩, ⟨Nat.le_of_not_lt h, ?_⟩⟩)⟩
    · have h0 : (y 0 : ℕ) < 384 := (y 0).isLt
      show (y 0 : ℕ) < 0 + 384
      omega
    · show (y 1 : ℕ) < a + n
      omega

/-- The groups of columns up to 512 agree with the whole result. -/
theorem S5_1_pieces (c : Dev nD) (X : XT) (s : ST) (w : WT) (ws : WST) (r : RT) (s1 : Bf (F := Ideal) c (Memref.whole cc0_scratch1)) (s3 : Bf (F := Ideal) c (Memref.whole cc0_scratch3)) :
    ∀ pc ∈ kernelRun.sl.S5_1 (F := Ideal) c X s w ws r s1 s3, ∀ x, pc.2 x = gY X s w ws r (pc.1.emb x) := by
  unfold kernelRun.sl.S5_1
  refine List.forall_mem_cons.mpr ⟨fun x => ?_, fun _ h => absurd h List.not_mem_nil⟩
  dsimp only
  unfold kernelRun.sl.r_17
  rw [v511_eq, v517_eq, v524_eq, v531_eq, v538_eq, v512_eq, v518_eq, v525_eq, v532_eq, v542_eq, v545_eq]
  exact y512_block X s w ws r 0 _ _ _ _ _ _ _ _ _ _ x

/-- They cover these columns. -/
theorem S5_1_cover (c : Dev nD) (X : XT) (s : ST) (w : WT) (ws : WST) (r : RT) (s1 : Bf (F := Ideal) c (Memref.whole cc0_scratch1)) (s3 : Bf (F := Ideal) c (Memref.whole cc0_scratch3)) :
    ∀ y : S384x5504.Idx, (y 1 : ℕ) < 512 → ∃ pc ∈ kernelRun.sl.S5_1 (F := Ideal) c X s w ws r s1 s3, y ∈ pc.1.set :=
  cover_cons _ 0 512 512 _ _ (fun _ h => absurd h (Nat.not_lt_zero _)) rfl

/-- The groups of columns up to 1024 agree with the whole result. -/
theorem S5_2_pieces (c : Dev nD) (X : XT) (s : ST) (w : WT) (ws : WST) (r : RT) (s1 : Bf (F := Ideal) c (Memref.whole cc0_scratch1)) (s3 : Bf (F := Ideal) c (Memref.whole cc0_scratch3)) :
    ∀ pc ∈ kernelRun.sl.S5_2 (F := Ideal) c X s w ws r s1 s3, ∀ x, pc.2 x = gY X s w ws r (pc.1.emb x) := by
  unfold kernelRun.sl.S5_2
  refine List.forall_mem_cons.mpr ⟨fun x => ?_, S5_1_pieces c X s w ws r s1 s3⟩
  dsimp only
  unfold kernelRun.sl.r_19 kernelRun.sl.r_18
  rw [qY1, v511_eq, v517_eq, v524_eq, v531_eq, v538_eq, v565_eq, v571_eq, v578_eq, v585_eq, v595_eq, v598_eq]
  exact y512_block X s w ws r 512 _ _ _ _ _ _ _ _ _ _ x

/-- They cover these columns. -/
theorem S5_2_cover (c : Dev nD) (X : XT) (s : ST) (w : WT) (ws : WST) (r : RT) (s1 : Bf (F := Ideal) c (Memref.whole cc0_scratch1)) (s3 : Bf (F := Ideal) c (Memref.whole cc0_scratch3)) :
    ∀ y : S384x5504.Idx, (y 1 : ℕ) < 1024 → ∃ pc ∈ kernelRun.sl.S5_2 (F := Ideal) c X s w ws r s1 s3, y ∈ pc.1.set :=
  cover_cons _ 512 512 1024 _ _ (S5_1_cover c X s w ws r s1 s3) rfl

/-- The groups of columns up to 1536 agree with the whole result. -/
theorem S5_3_pieces (c : Dev nD) (X : XT) (s : ST) (w : WT) (ws : WST) (r : RT) (s1 : Bf (F := Ideal) c (Memref.whole cc0_scratch1)) (s3 : Bf (F := Ideal) c (Memref.whole cc0_scratch3)) :
    ∀ pc ∈ kernelRun.sl.S5_3 (F := Ideal) c X s w ws r s1 s3, ∀ x, pc.2 x = gY X s w ws r (pc.1.emb x) := by
  unfold kernelRun.sl.S5_3
  refine List.forall_mem_cons.mpr ⟨fun x => ?_, S5_2_pieces c X s w ws r s1 s3⟩
  dsimp only
  unfold kernelRun.sl.r_20
  rw [qY2, v511_eq, v517_eq, v524_eq, v531_eq, v538_eq, v606_eq, v612_eq, v619_eq, v626_eq, v636_eq, v639_eq]
  exact y512_block X s w ws r 1024 _ _ _ _ _ _ _ _ _ _ x

/-- They cover these columns. -/
theorem S5_3_cover (c : Dev nD) (X : XT) (s : ST) (w : WT) (ws : WST) (r : RT) (s1 : Bf (F := Ideal) c (Memref.whole cc0_scratch1)) (s3 : Bf (F := Ideal) c (Memref.whole cc0_scratch3)) :
    ∀ y : S384x5504.Idx, (y 1 : ℕ) < 1536 → ∃ pc ∈ kernelRun.sl.S5_3 (F := Ideal) c X s w ws r s1 s3, y ∈ pc.1.set :=
  cover_cons _ 1024 512 1536 _ _ (S5_2_cover c X s w ws r s1 s3) rfl

/-- The groups of columns up to 2048 agree with the whole result. -/
theorem S5_4_pieces (c : Dev nD) (X : XT) (s : ST) (w : WT) (ws : WST) (r : RT) (s1 : Bf (F := Ideal) c (Memref.whole cc0_scratch1)) (s3 : Bf (F := Ideal) c (Memref.whole cc0_scratch3)) :
    ∀ pc ∈ kernelRun.sl.S5_4 (F := Ideal) c X s w ws r s1 s3, ∀ x, pc.2 x = gY X s w ws r (pc.1.emb x) := by
  unfold kernelRun.sl.S5_4
  refine List.forall_mem_cons.mpr ⟨fun x => ?_, S5_3_pieces c X s w ws r s1 s3⟩
  dsimp only
  unfold kernelRun.sl.r_21 kernelRun.sl.r_22
  rw [qY3, v511_eq, v517_eq, v524_eq, v531_eq, v538_eq, v659_eq, v665_eq, v672_eq, v679_eq, v689_eq, v692_eq]
  exact y512_block X s w ws r 1536 _ _ _ _ _ _ _ _ _ _ x

/-- They cover these columns. -/
theorem S5_4_cover (c : Dev nD) (X : XT) (s : ST) (w : WT) (ws : WST) (r : RT) (s1 : Bf (F := Ideal) c (Memref.whole cc0_scratch1)) (s3 : Bf (F := Ideal) c (Memref.whole cc0_scratch3)) :
    ∀ y : S384x5504.Idx, (y 1 : ℕ) < 2048 → ∃ pc ∈ kernelRun.sl.S5_4 (F := Ideal) c X s w ws r s1 s3, y ∈ pc.1.set :=
  cover_cons _ 1536 512 2048 _ _ (S5_3_cover c X s w ws r s1 s3) rfl

/-- The groups of columns up to 2560 agree with the whole result. -/
theorem S5_5_pieces (c : Dev nD) (X : XT) (s : ST) (w : WT) (ws : WST) (r : RT) (s1 : Bf (F := Ideal) c (Memref.whole cc0_scratch1)) (s3 : Bf (F := Ideal) c (Memref.whole cc0_scratch3)) :
    ∀ pc ∈ kernelRun.sl.S5_5 (F := Ideal) c X s w ws r s1 s3, ∀ x, pc.2 x = gY X s w ws r (pc.1.emb x) := by
  unfold kernelRun.sl.S5_5
  refine List.forall_mem_cons.mpr ⟨fun x => ?_, S5_4_pieces c X s w ws r s1 s3⟩
  dsimp only
  unfold kernelRun.sl.r_24 kernelRun.sl.r_23
  rw [qY4, v511_eq, v517_eq, v524_eq, v531_eq, v538_eq, v700_eq, v706_eq, v713_eq, v720_eq, v730_eq, v733_eq]
  exact y512_block X s w ws r 2048 _ _ _ _ _ _ _ _ _ _ x

/-- They cover these columns. -/
theorem S5_5_cover (c : Dev nD) (X : XT) (s : ST) (w : WT) (ws : WST) (r : RT) (s1 : Bf (F := Ideal) c (Memref.whole cc0_scratch1)) (s3 : Bf (F := Ideal) c (Memref.whole cc0_scratch3)) :
    ∀ y : S384x5504.Idx, (y 1 : ℕ) < 2560 → ∃ pc ∈ kernelRun.sl.S5_5 (F := Ideal) c X s w ws r s1 s3, y ∈ pc.1.set :=
  cover_cons _ 2048 512 2560 _ _ (S5_4_cover c X s w ws r s1 s3) rfl

/-- The groups of columns up to 3072 agree with the whole result. -/
theorem S5_6_pieces (c : Dev nD) (X : XT) (s : ST) (w : WT) (ws : WST) (r : RT) (s1 : Bf (F := Ideal) c (Memref.whole cc0_scratch1)) (s3 : Bf (F := Ideal) c (Memref.whole cc0_scratch3)) :
    ∀ pc ∈ kernelRun.sl.S5_6 (F := Ideal) c X s w ws r s1 s3, ∀ x, pc.2 x = gY X s w ws r (pc.1.emb x) := by
  unfold kernelRun.sl.S5_6
  refine List.forall_mem_cons.mpr ⟨fun x => ?_, S5_5_pieces c X s w ws r s1 s3⟩
  dsimp only
  unfold kernelRun.sl.r_25
  rw [qY5, v511_eq, v517_eq, v524_eq, v531_eq, v538_eq, v741_eq, v747_eq, v754_eq, v761_eq, v771_eq, v774_eq]
  exact y512_block X s w ws r 2560 _ _ _ _ _ _ _ _ _ _ x

/-- They cover these columns. -/
theorem S5_6_cover (c : Dev nD) (X : XT) (s : ST) (w : WT) (ws : WST) (r : RT) (s1 : Bf (F := Ideal) c (Memref.whole cc0_scratch1)) (s3 : Bf (F := Ideal) c (Memref.whole cc0_scratch3)) :
    ∀ y : S384x5504.Idx, (y 1 : ℕ) < 3072 → ∃ pc ∈ kernelRun.sl.S5_6 (F := Ideal) c X s w ws r s1 s3, y ∈ pc.1.set :=
  cover_cons _ 2560 512 3072 _ _ (S5_5_cover c X s w ws r s1 s3) rfl

/-- The groups of columns up to 3584 agree with the whole result. -/
theorem S5_7_pieces (c : Dev nD) (X : XT) (s : ST) (w : WT) (ws : WST) (r : RT) (s1 : Bf (F := Ideal) c (Memref.whole cc0_scratch1)) (s3 : Bf (F := Ideal) c (Memref.whole cc0_scratch3)) :
    ∀ pc ∈ kernelRun.sl.S5_7 (F := Ideal) c X s w ws r s1 s3, ∀ x, pc.2 x = gY X s w ws r (pc.1.emb x) := by
  unfold kernelRun.sl.S5_7
  refine List.forall_mem_cons.mpr ⟨fun x => ?_, S5_6_pieces c X s w ws r s1 s3⟩
  dsimp only
  unfold kernelRun.sl.r_26
  rw [qY6, v511_eq, v517_eq, v524_eq, v531_eq, v538_eq, v782_eq, v788_eq, v795_eq, v802_eq, v812_eq, v815_eq]
  exact y512_block X s w ws r 3072 _ _ _ _ _ _ _ _ _ _ x

/-- They cover these columns. -/
theorem S5_7_cover (c : Dev nD) (X : XT) (s : ST) (w : WT) (ws : WST) (r : RT) (s1 : Bf (F := Ideal) c (Memref.whole cc0_scratch1)) (s3 : Bf (F := Ideal) c (Memref.whole cc0_scratch3)) :
    ∀ y : S384x5504.Idx, (y 1 : ℕ) < 3584 → ∃ pc ∈ kernelRun.sl.S5_7 (F := Ideal) c X s w ws r s1 s3, y ∈ pc.1.set :=
  cover_cons _ 3072 512 3584 _ _ (S5_6_cover c X s w ws r s1 s3) rfl

/-- The groups of columns up to 4096 agree with the whole result. -/
theorem S5_8_pieces (c : Dev nD) (X : XT) (s : ST) (w : WT) (ws : WST) (r : RT) (s1 : Bf (F := Ideal) c (Memref.whole cc0_scratch1)) (s3 : Bf (F := Ideal) c (Memref.whole cc0_scratch3)) :
    ∀ pc ∈ kernelRun.sl.S5_8 (F := Ideal) c X s w ws r s1 s3, ∀ x, pc.2 x = gY X s w ws r (pc.1.emb x) := by
  unfold kernelRun.sl.S5_8
  refine List.forall_mem_cons.mpr ⟨fun x => ?_, S5_7_pieces c X s w ws r s1 s3⟩
  dsimp only
  unfold kernelRun.sl.r_28 kernelRun.sl.r_27
  rw [qY7, v511_eq, v517_eq, v524_eq, v531_eq, v538_eq, v835_eq, v841_eq, v848_eq, v855_eq, v865_eq, v868_eq]
  exact y512_block X s w ws r 3584 _ _ _ _ _ _ _ _ _ _ x

/-- They cover these columns. -/
theorem S5_8_cover (c : Dev nD) (X : XT) (s : ST) (w : WT) (ws : WST) (r : RT) (s1 : Bf (F := Ideal) c (Memref.whole cc0_scratch1)) (s3 : Bf (F := Ideal) c (Memref.whole cc0_scratch3)) :
    ∀ y : S384x5504.Idx, (y 1 : ℕ) < 4096 → ∃ pc ∈ kernelRun.sl.S5_8 (F := Ideal) c X s w ws r s1 s3, y ∈ pc.1.set :=
  cover_cons _ 3584 512 4096 _ _ (S5_7_cover c X s w ws r s1 s3) rfl

/-- The groups of columns up to 4608 agree with the whole result. -/
theorem S5_9_pieces (c : Dev nD) (X : XT) (s : ST) (w : WT) (ws : WST) (r : RT) (s1 : Bf (F := Ideal) c (Memref.whole cc0_scratch1)) (s3 : Bf (F := Ideal) c (Memref.whole cc0_scratch3)) :
    ∀ pc ∈ kernelRun.sl.S5_9 (F := Ideal) c X s w ws r s1 s3, ∀ x, pc.2 x = gY X s w ws r (pc.1.emb x) := by
  unfold kernelRun.sl.S5_9
  refine List.forall_mem_cons.mpr ⟨fun x => ?_, S5_8_pieces c X s w ws r s1 s3⟩
  dsimp only
  unfold kernelRun.sl.r_29
  rw [qY8, v511_eq, v517_eq, v524_eq, v531_eq, v538_eq, v876_eq, v882_eq, v889_eq, v896_eq, v906_eq, v909_eq]
  exact y512_block X s w ws r 4096 _ _ _ _ _ _ _ _ _ _ x

/-- They cover these columns. -/
theorem S5_9_cover (c : Dev nD) (X : XT) (s : ST) (w : WT) (ws : WST) (r : RT) (s1 : Bf (F := Ideal) c (Memref.whole cc0_scratch1)) (s3 : Bf (F := Ideal) c (Memref.whole cc0_scratch3)) :
    ∀ y : S384x5504.Idx, (y 1 : ℕ) < 4608 → ∃ pc ∈ kernelRun.sl.S5_9 (F := Ideal) c X s w ws r s1 s3, y ∈ pc.1.set :=
  cover_cons _ 4096 512 4608 _ _ (S5_8_cover c X s w ws r s1 s3) rfl

/-- The groups of columns up to 5120 agree with the whole result. -/
theorem S5_10_pieces (c : Dev nD) (X : XT) (s : ST) (w : WT) (ws : WST) (r : RT) (s1 : Bf (F := Ideal) c (Memref.whole cc0_scratch1)) (s3 : Bf (F := Ideal) c (Memref.whole cc0_scratch3)) :
    ∀ pc ∈ kernelRun.sl.S5_10 (F := Ideal) c X s w ws r s1 s3, ∀ x, pc.2 x = gY X s w ws r (pc.1.emb x) := by
  unfold kernelRun.sl.S5_10
  refine List.forall_mem_cons.mpr ⟨fun x => ?_, S5_9_pieces c X s w ws r s1 s3⟩
  dsimp only
  unfold kernelRun.sl.r_30
  rw [qY9, v511_eq, v517_eq, v524_eq, v531_eq, v538_eq, v917_eq, v923_eq, v930_eq, v937_eq, v947_eq, v950_eq]
  exact y512_block X s w ws r 4608 _ _ _ _ _ _ _ _ _ _ x

/-- They cover these columns. -/
theorem S5_10_cover (c : Dev nD) (X : XT) (s : ST) (w : WT) (ws : WST) (r : RT) (s1 : Bf (F := Ideal) c (Memref.whole cc0_scratch1)) (s3 : Bf (F := Ideal) c (Memref.whole cc0_scratch3)) :
    ∀ y : S384x5504.Idx, (y 1 : ℕ) < 5120 → ∃ pc ∈ kernelRun.sl.S5_10 (F := Ideal) c X s w ws r s1 s3, y ∈ pc.1.set :=
  cover_cons _ 4608 512 5120 _ _ (S5_9_cover c X s w ws r s1 s3) rfl

/-- The groups of columns up to 5504 agree with the whole result. -/
theorem S5_11_pieces (c : Dev nD) (X : XT) (s : ST) (w : WT) (ws : WST) (r : RT) (s1 : Bf (F := Ideal) c (Memref.whole cc0_scratch1)) (s3 : Bf (F := Ideal) c (Memref.whole cc0_scratch3)) :
    ∀ pc ∈ kernelRun.sl.S5_11 (F := Ideal) c X s w ws r s1 s3, ∀ x, pc.2 x = gY X s w ws r (pc.1.emb x) := by
  unfold kernelRun.sl.S5_11
  refine List.forall_mem_cons.mpr ⟨fun x => ?_, S5_10_pieces c X s w ws r s1 s3⟩
  dsimp only
  unfold kernelRun.sl.v1009 kernelRun.sl.r_32 kernelRun.sl.r_31
  rw [v511_eq, v517_eq, v524_eq, v531_eq, v538_eq, v970_eq, v976_eq, v983_eq, v990_eq, v1000_eq, v1003_eq]
  exact y384_block X s w ws r 5120 _ _ _ _ _ _ _ _ _ _ x

/-- They cover these columns. -/
theorem S5_11_cover (c : Dev nD) (X : XT) (s : ST) (w : WT) (ws : WST) (r : RT) (s1 : Bf (F := Ideal) c (Memref.whole cc0_scratch1)) (s3 : Bf (F := Ideal) c (Memref.whole cc0_scratch3)) :
    ∀ y : S384x5504.Idx, (y 1 : ℕ) < 5504 → ∃ pc ∈ kernelRun.sl.S5_11 (F := Ideal) c X s w ws r s1 s3, y ∈ pc.1.set :=
  cover_cons _ 5120 384 5504 _ _ (S5_10_cover c X s w ws r s1 s3) rfl

/-- The copy of the columns from 0 on. -/
theorem dma107_at (c : Dev nD) (X : XT) (s : ST) (w : WT) (ws : WST) (r : RT) (s1 : Bf (F := Ideal) c (Memref.whole cc0_scratch1)) (s3 : Bf (F := Ideal) c (Memref.whole cc0_scratch3)) (s5 : Bf (F := Ideal) c (Memref.whole cc0_scratch5)) (inb) (x : S384x512.Idx) :
    kernelRun.sl.dma107 (F := Ideal) c X s w ws r s1 s3 s5 x = gY X s w ws r ((Rect.unit (s := S384x5504) ![0, 0] S384x512.size inb).emb x) := by
  have hc := S5_1_cover c X s w ws r s1 s3 ((Rect.unit (s := S384x5504) ![0, 0] S384x512.size inb).emb x) (by
    have h : (x 1 : ℕ) < 512 := (x 1).isLt
    have e : (((Rect.unit (s := S384x5504) ![0, 0] S384x512.size inb).emb x) 1 : ℕ) = 0 + x 1 := Rect.idx_unit_val _ _ _ _ _
    omega)
  exact (View.read_writes_apply_eq_canon (Memref.whole cc0_scratch5).view s5 _ _ hc).trans (canon_of_pieces _ _ (S5_1_pieces c X s w ws r s1 s3) _ hc)

/-- The copy of the columns from 512 on. -/
theorem dma133_at (c : Dev nD) (X : XT) (s : ST) (w : WT) (ws : WST) (r : RT) (s1 : Bf (F := Ideal) c (Memref.whole cc0_scratch1)) (s3 : Bf (F := Ideal) c (Memref.whole cc0_scratch3)) (s5 : Bf (F := Ideal) c (Memref.whole cc0_scratch5)) (inb) (x : S384x1024.Idx) :
    kernelRun.sl.dma133 (F := Ideal) c X s w ws r s1 s3 s5 x = gY X s w ws r ((Rect.unit (s := S384x5504) ![0, 512] S384x1024.size inb).emb x) := by
  have hc := S5_3_cover c X s w ws r s1 s3 ((Rect.unit (s := S384x5504) ![0, 512] S384x1024.size inb).emb x) (by
    have h : (x 1 : ℕ) < 1024 := (x 1).isLt
    have e : (((Rect.unit (s := S384x5504) ![0, 512] S384x1024.size inb).emb x) 1 : ℕ) = 512 + x 1 := Rect.idx_unit_val _ _ _ _ _
    omega)
  exact (View.read_writes_apply_eq_canon (Memref.whole cc0_scratch5).view s5 _ _ hc).trans (canon_of_pieces _ _ (S5_3_pieces c X s w ws r s1 s3) _ hc)

/-- The copy of the columns from 1536 on. -/
theorem dma185_at (c : Dev nD) (X : XT) (s : ST) (w : WT) (ws : WST) (r : RT) (s1 : Bf (F := Ideal) c (Memref.whole cc0_scratch1)) (s3 : Bf (F := Ideal) c (Memref.whole cc0_scratch3)) (s5 : Bf (F := Ideal) c (Memref.whole cc0_scratch5)) (inb) (x : S384x2048.Idx) :
    kernelRun.sl.dma185 (F := Ideal) c X s w ws r s1 s3 s5 x = gY X s w ws r ((Rect.unit (s := S384x5504) ![0, 1536] S384x2048.size inb).emb x) := by
  have hc := S5_7_cover c X s w ws r s1 s3 ((Rect.unit (s := S384x5504) ![0, 1536] S384x2048.size inb).emb x) (by
    have h : (x 1 : ℕ) < 2048 := (x 1).isLt
    have e : (((Rect.unit (s := S384x5504) ![0, 1536] S384x2048.size inb).emb x) 1 : ℕ) = 1536 + x 1 := Rect.idx_unit_val _ _ _ _ _
    omega)
  exact (View.read_writes_apply_eq_canon (Memref.whole cc0_scratch5).view s5 _ _ hc).trans (canon_of_pieces _ _ (S5_7_pieces c X s w ws r s1 s3) _ hc)

/-- The copy of the columns from 3584 on. -/
theorem dma224_at (c : Dev nD) (X : XT) (s : ST) (w : WT) (ws : WST) (r : RT) (s1 : Bf (F := Ideal) c (Memref.whole cc0_scratch1)) (s3 : Bf (F := Ideal) c (Memref.whole cc0_scratch3)) (s5 : Bf (F := Ideal) c (Memref.whole cc0_scratch5)) (inb) (x : S384x1536.Idx) :
    kernelRun.sl.dma224 (F := Ideal) c X s w ws r s1 s3 s5 x = gY X s w ws r ((Rect.unit (s := S384x5504) ![0, 3584] S384x1536.size inb).emb x) := by
  have hc := S5_10_cover c X s w ws r s1 s3 ((Rect.unit (s := S384x5504) ![0, 3584] S384x1536.size inb).emb x) (by
    have h : (x 1 : ℕ) < 1536 := (x 1).isLt
    have e : (((Rect.unit (s := S384x5504) ![0, 3584] S384x1536.size inb).emb x) 1 : ℕ) = 3584 + x 1 := Rect.idx_unit_val _ _ _ _ _
    omega)
  exact (View.read_writes_apply_eq_canon (Memref.whole cc0_scratch5).view s5 _ _ hc).trans (canon_of_pieces _ _ (S5_10_pieces c X s w ws r s1 s3) _ hc)

/-- The copy of the columns from 5120 on. -/
theorem dma237_at (c : Dev nD) (X : XT) (s : ST) (w : WT) (ws : WST) (r : RT) (s1 : Bf (F := Ideal) c (Memref.whole cc0_scratch1)) (s3 : Bf (F := Ideal) c (Memref.whole cc0_scratch3)) (s5 : Bf (F := Ideal) c (Memref.whole cc0_scratch5)) (inb) (x : S384x384.Idx) :
    kernelRun.sl.dma237 (F := Ideal) c X s w ws r s1 s3 s5 x = gY X s w ws r ((Rect.unit (s := S384x5504) ![0, 5120] S384x384.size inb).emb x) := by
  have hc := S5_11_cover c X s w ws r s1 s3 ((Rect.unit (s := S384x5504) ![0, 5120] S384x384.size inb).emb x) (by
    have h : (x 1 : ℕ) < 384 := (x 1).isLt
    have e : (((Rect.unit (s := S384x5504) ![0, 5120] S384x384.size inb).emb x) 1 : ℕ) = 5120 + x 1 := Rect.idx_unit_val _ _ _ _ _
    omega)
  exact (View.read_writes_apply_eq_canon (Memref.whole cc0_scratch5).view s5 _ _ hc).trans (canon_of_pieces _ _ (S5_11_pieces c X s w ws r s1 s3) _ hc)

/-- The copies that bring out the result, last first. -/
def yL (c : Dev nD) (X : XT) (s : ST) (w : WT) (ws : WST) (r : RT) (s1 : Bf (F := Ideal) c (Memref.whole cc0_scratch1)) (s3 : Bf (F := Ideal) c (Memref.whole cc0_scratch3)) (s5 : Bf (F := Ideal) c (Memref.whole cc0_scratch5)) : List (View.Piece (Elt Ideal) S384x5504 .bf16) :=
  [⟨Rect.unit ![0, 5120] S384x384.size (by decide), kernelRun.sl.dma237 (F := Ideal) c X s w ws r s1 s3 s5⟩,
    ⟨Rect.unit ![0, 3584] S384x1536.size (by decide), kernelRun.sl.dma224 (F := Ideal) c X s w ws r s1 s3 s5⟩,
    ⟨Rect.unit ![0, 1536] S384x2048.size (by decide), kernelRun.sl.dma185 (F := Ideal) c X s w ws r s1 s3 s5⟩,
    ⟨Rect.unit ![0, 512] S384x1024.size (by decide), kernelRun.sl.dma133 (F := Ideal) c X s w ws r s1 s3 s5⟩,
    ⟨Rect.unit ![0, 0] S384x512.size (by decide), kernelRun.sl.dma107 (F := Ideal) c X s w ws r s1 s3 s5⟩]

/-- Each brings its columns of the result. -/
theorem yL_pieces (c : Dev nD) (X : XT) (s : ST) (w : WT) (ws : WST) (r : RT) (s1 : Bf (F := Ideal) c (Memref.whole cc0_scratch1)) (s3 : Bf (F := Ideal) c (Memref.whole cc0_scratch3)) (s5 : Bf (F := Ideal) c (Memref.whole cc0_scratch5)) :
    ∀ pc ∈ yL c X s w ws r s1 s3 s5, ∀ x, pc.2 x = gY X s w ws r (pc.1.emb x) := by
  unfold yL
  simp only [List.forall_mem_cons]
  exact ⟨fun x => dma237_at c X s w ws r s1 s3 s5 _ x, fun x => dma224_at c X s w ws r s1 s3 s5 _ x, fun x => dma185_at c X s w ws r s1 s3 s5 _ x, fun x => dma133_at c X s w ws r s1 s3 s5 _ x, fun x => dma107_at c X s w ws r s1 s3 s5 _ x, fun _ h => absurd h List.not_mem_nil⟩

/-- Together they cover it. -/
theorem yL_cover (c : Dev nD) (X : XT) (s : ST) (w : WT) (ws : WST) (r : RT) (s1 : Bf (F := Ideal) c (Memref.whole cc0_scratch1)) (s3 : Bf (F := Ideal) c (Memref.whole cc0_scratch3)) (s5 : Bf (F := Ideal) c (Memref.whole cc0_scratch5)) :
    ∀ y, ∃ pc ∈ yL c X s w ws r s1 s3 s5, y ∈ pc.1.set :=
  View.cover_of_tiledBy _ ![384, 128] (by sl_kernel_rfl)

end Cert.KernelIdeal.Hand

end

end
-- ==== Proof.ValZ.lean ====
module

public import proofs.«01_k».proof.Proof.ValY

/-! What the kernel's run leaves in its three results. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The three results, as the copies write them. -/
theorem run_wt (c : Dev nD) (X : XT) (s : ST) (w : WT) (ws : WST) (r : RT) (f5 : Bf (F := Ideal) c (Memref.whole main_v4_0)) (f6 : Bf (F := Ideal) c (Memref.whole main_v4_1)) (f7 : Bf (F := Ideal) c (Memref.whole main_v4_2)) (s0 : Bf (F := Ideal) c (Memref.whole cc0_scratch0)) (s1 : Bf (F := Ideal) c (Memref.whole cc0_scratch1)) (s2 : Bf (F := Ideal) c (Memref.whole cc0_scratch2)) (s3 : Bf (F := Ideal) c (Memref.whole cc0_scratch3)) (s4 : Bf (F := Ideal) c (Memref.whole cc0_scratch4)) (s5 : Bf (F := Ideal) c (Memref.whole cc0_scratch5)) (s6 : Bf (F := Ideal) c (Memref.whole cc0_scratch6)) (s7 : Bf (F := Ideal) c (Memref.whole cc0_scratch7)) (s8 : Bf (F := Ideal) c (Memref.whole cc0_scratch8)) (s9 : Bf (F := Ideal) c (Memref.whole cc0_scratch9)) :
    (kernelRun (F := Ideal) c X s w ws r f5 f6 f7 s0 s1 s2 s3 s4 s5 s6 s7 s8 s9).1 = ((Memref.whole main_v4_0).view.writes (Elt Ideal) (Memref.whole main_v4_0).view.junk (yL c X s w ws r s1 s3 s5),
      View.write (Elt Ideal) (Memref.whole main_v4_1).view f6 (kernelRun.sl.dma94_8 (F := Ideal) c X s s1 s6) Finset.univ,
      View.write (Elt Ideal) (Memref.whole main_v4_2).view f7 (kernelRun.sl.dma94_9 (F := Ideal) c X s s1 s9) Finset.univ) := by
  unfold kernelRun
  rfl

/-- The copies of the result leave the result. -/
theorem out_y (c : Dev nD) (X : XT) (s : ST) (w : WT) (ws : WST) (r : RT) (s1 : Bf (F := Ideal) c (Memref.whole cc0_scratch1)) (s3 : Bf (F := Ideal) c (Memref.whole cc0_scratch3)) (s5 : Bf (F := Ideal) c (Memref.whole cc0_scratch5)) :
    View.read (Elt Ideal) (Memref.whole main_v4_0).view ((Memref.whole main_v4_0).view.writes (Elt Ideal) (Memref.whole main_v4_0).view.junk (yL c X s w ws r s1 s3 s5)) = gY X s w ws r := by
  refine (View.read_writes_eq_canon (Val := Elt Ideal) (Memref.whole main_v4_0).view (Memref.whole main_v4_0).view.junk (yL c X s w ws r s1 s3 s5) (yL_cover c X s w ws r s1 s3 s5)).trans ?_
  funext y
  exact canon_of_pieces _ _ (yL_pieces c X s w ws r s1 s3 s5) y (yL_cover c X s w ws r s1 s3 s5 y)

/-- The copy of the codes brings the codes. -/
theorem out_c (c : Dev nD) (X : XT) (s : ST) (s1 : Bf (F := Ideal) c (Memref.whole cc0_scratch1)) (s6 : Bf (F := Ideal) c (Memref.whole cc0_scratch6)) :
    kernelRun.sl.dma94_8 (F := Ideal) c X s s1 s6 = gC X s := by
  unfold kernelRun.sl.dma94_8
  rw [View.read_writes_eq_canon _ _ _ (S6_cover c X s s1)]
  funext y
  exact canon_of_pieces _ _ (S6_pieces c X s s1) y (S6_cover c X s s1 y)

/-- The copy of the scales brings the scales. -/
theorem out_s (c : Dev nD) (X : XT) (s : ST) (s1 : Bf (F := Ideal) c (Memref.whole cc0_scratch1)) (s9 : Bf (F := Ideal) c (Memref.whole cc0_scratch9)) :
    kernelRun.sl.dma94_9 (F := Ideal) c X s s1 s9 = gR X s := by
  unfold kernelRun.sl.dma94_9
  rw [View.read_writes_eq_canon _ _ _ (S9_cover c X s s1)]
  funext y
  exact canon_of_pieces _ _ (S9_pieces c X s s1) y (S9_cover c X s s1 y)

/-- The same for the array itself. -/
theorem out_yw (c : Dev nD) (X : XT) (s : ST) (w : WT) (ws : WST) (r : RT) (s1 : Bf (F := Ideal) c (Memref.whole cc0_scratch1)) (s3 : Bf (F := Ideal) c (Memref.whole cc0_scratch3)) (s5 : Bf (F := Ideal) c (Memref.whole cc0_scratch5)) :
    (Memref.whole main_v4_0).view.writes (Elt Ideal) (Memref.whole main_v4_0).view.junk (yL c X s w ws r s1 s3 s5) = gY X s w ws r := by
  have h := out_y c X s w ws r s1 s3 s5
  generalize (Memref.whole main_v4_0).view.writes (Elt Ideal) (Memref.whole main_v4_0).view.junk (yL c X s w ws r s1 s3 s5) = A at h ⊢
  exact h

/-- What the run leaves, whatever the scratch memory held. -/
theorem run_eq (c : Dev nD) (X : XT) (s : ST) (w : WT) (ws : WST) (r : RT) (f5 : Bf (F := Ideal) c (Memref.whole main_v4_0)) (f6 : Bf (F := Ideal) c (Memref.whole main_v4_1)) (f7 : Bf (F := Ideal) c (Memref.whole main_v4_2)) (s0 : Bf (F := Ideal) c (Memref.whole cc0_scratch0)) (s1 : Bf (F := Ideal) c (Memref.whole cc0_scratch1)) (s2 : Bf (F := Ideal) c (Memref.whole cc0_scratch2)) (s3 : Bf (F := Ideal) c (Memref.whole cc0_scratch3)) (s4 : Bf (F := Ideal) c (Memref.whole cc0_scratch4)) (s5 : Bf (F := Ideal) c (Memref.whole cc0_scratch5)) (s6 : Bf (F := Ideal) c (Memref.whole cc0_scratch6)) (s7 : Bf (F := Ideal) c (Memref.whole cc0_scratch7)) (s8 : Bf (F := Ideal) c (Memref.whole cc0_scratch8)) (s9 : Bf (F := Ideal) c (Memref.whole cc0_scratch9)) :
    (kernelRun (F := Ideal) c X s w ws r f5 f6 f7 s0 s1 s2 s3 s4 s5 s6 s7 s8 s9).1 = (gY X s w ws r, gC X s, gR X s) := by
  rw [run_wt, out_c, out_s, View.write_whole_univ, View.write_whole_univ, out_yw]

end Cert.KernelIdeal.Hand

end

end
-- ==== Proof.RunV.lean ====
module

public import proofs.«01_k».proof.Proof.RunI
public import proofs.«01_k».proof.Proof.ValZ
public import Idealize.ShloMosaic.Lib.Pipeline.FrameSuffixV

/-! The kernel's program at the ideal values: what its three results hold when it ends. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)

/-- The contents after the kernel: the three results hold what the run leaves, every other buffer what it held. -/
def G (c : Dev nD) : (b : Ref sig .tc) → Buf (Elt Ideal) ((c : Thread nD τ).loc b) :=
  Function.update (Function.update (Function.update (V m c) main_v4_0 (gY (V m c main_v0) (V m c main_v1) (V m c main_arg2) (V m c main_v2) (V m c main_v3)))
    main_v4_1 (gC (V m c main_v0) (V m c main_v1))) main_v4_2 (gR (V m c main_v0) (V m c main_v1))
theorem G_y (c : Dev nD) : G m c main_v4_0 = gY (V m c main_v0) (V m c main_v1) (V m c main_arg2) (V m c main_v2) (V m c main_v3) :=
  (Function.update_of_ne (by decide) _ _).trans ((Function.update_of_ne (by decide) _ _).trans (Function.update_self _ _ _))
theorem G_c (c : Dev nD) : G m c main_v4_1 = gC (V m c main_v0) (V m c main_v1) :=
  (Function.update_of_ne (by decide) _ _).trans (Function.update_self _ _ _)
theorem G_s (c : Dev nD) : G m c main_v4_2 = gR (V m c main_v0) (V m c main_v1) :=
  Function.update_self _ _ _

/-- The results, each whole at given contents. -/
theorem resPts0_eq (A : (c : Dev nD) → (b : Ref sig .tc) → Buf (Elt Ideal) ((c : Thread nD τ).loc b)) (c : Dev nD) :
    (bigSep R0 (fun b => ((c : Thread nD τ).loc b) ↦{fullShare} A c b) : sProp 𝕄)
      = iprop(pt c (Memref.whole main_v4_0) (A c main_v4_0) ∗ pt c (Memref.whole main_v4_1) (A c main_v4_1) ∗ pt c (Memref.whole main_v4_2) (A c main_v4_2)) := by
  rw [BI.bigSep_eq_bigSepL_of_eq [main_v4_0, main_v4_1, main_v4_2] (by decide) (by decide)]; rfl

/-- The invariant around the kernel's one point, buffer by buffer. -/
theorem PhiV0_eq (A : (c : Dev nD) → (b : Ref sig .tc) → Buf (Elt Ideal) ((c : Thread nD τ).loc b)) (c : Dev nD) :
    (Pipeline.ΦDRV osem0 cfg0.spec H0 R0 (V m) A c : sProp 𝕄)
      = iprop(iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f))
          ∗ iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)
          ∗ iprop(pt c (Memref.whole main_v0) (V m c main_v0) ∗ pt c (Memref.whole main_v1) (V m c main_v1) ∗ pt c (Memref.whole main_arg2) (V m c main_arg2) ∗ pt c (Memref.whole main_v2) (V m c main_v2) ∗ pt c (Memref.whole main_v3) (V m c main_v3))
          ∗ iprop(pt c (Memref.whole main_v4_0) (A c main_v4_0) ∗ pt c (Memref.whole main_v4_1) (A c main_v4_1) ∗ pt c (Memref.whole main_v4_2) (A c main_v4_2))) := by
  unfold Pipeline.ΦDRV; rw [scopedRest0_eq, ownSems00_eq, hbmPts0_eq, resPts0_eq]

/-- The proof data of the one pipeline: no windows; the invariant holds the results as found before the one point and as
    the kernel leaves them after it; nothing owed. -/
def datsV (_ : Fin 1) (c : Dev nD) : Dat τ (Elt Ideal) Unit ℕ (Pipeline.UD sig nD τ) ℕ cfg0 c where
  A w := w.elim0
  after w := w.elim0
  Φ t := if t.val = 0 then Pipeline.ΦDRV osem0 cfg0.spec H0 R0 (V m) (V m) c else Pipeline.ΦDRV osem0 cfg0.spec H0 R0 (V m) (G m) c
  q _ := fullShare
  owed _ := 0
theorem PhiV_first (c : Dev nD) (t : Fin (cfg0.N + 1)) (h : t.val = 0) : (datsV m 0 c).Φ t = Pipeline.ΦDRV osem0 cfg0.spec H0 R0 (V m) (V m) c := if_pos h
theorem PhiV_last (c : Dev nD) (t : Fin (cfg0.N + 1)) (h : t.val ≠ 0) : (datsV m 0 c).Φ t = Pipeline.ΦDRV osem0 cfg0.spec H0 R0 (V m) (G m) c := if_neg h

/-- The body at its point: from the invariant back to the invariant. -/
theorem sound_bodyV (c : Dev nD) (t : Fin cfg0.N) :
    iprop((datsV m 0 c).Φ t.castSucc ∗ (datsV m 0 c).owesAt () t.castSucc)
      ⊢ wp Idealize.ShloMosaic.frame (wpE (defs₀ (F := Ideal)) Variants.none c none) Set.univ (bodyAt0 t) (fun _ => iprop((datsV m 0 c).Φ t.succ ∗ (datsV m 0 c).owesAt () t.succ)) := by
  rw [PhiV_first m c t.castSucc (Nat.lt_one_iff.mp t.isLt), PhiV_last m c t.succ (Nat.succ_ne_zero _), PhiV0_eq, PhiV0_eq]
  unfold Dat.owesAt Pipeline.owesWithin
  rw [show (datsV m 0 c).owed t.castSucc = 0 from rfl, show (datsV m 0 c).owed t.succ = 0 from rfl]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩⟩, ⟨D0, D1, D2, D3, D4, D5, D6, D7, D8, D9, D10, D11, D12, D13, D14, D15, D16, D17, D18, D19, D20, D21⟩, ⟨H0, H1, H2, H3, H4⟩, ⟨H5, H6, H7⟩⟩, ⟨%W, -, HW⟩⟩
  have e := run_eq c (V m c main_v0) (V m c main_v1) (V m c main_arg2) (V m c main_v2) (V m c main_v3) (V m c main_v4_0) (V m c main_v4_1) (V m c main_v4_2) s0 s1 s2 s3 s4 s5 s6 s7 s8 s9
  have e5 : G m c main_v4_0 = (kernelRun (F := Ideal) c (V m c main_v0) (V m c main_v1) (V m c main_arg2) (V m c main_v2) (V m c main_v3) (V m c main_v4_0) (V m c main_v4_1) (V m c main_v4_2) s0 s1 s2 s3 s4 s5 s6 s7 s8 s9).1.1 := (G_y m c).trans (congrArg Prod.fst e).symm
  have e6 : G m c main_v4_1 = (kernelRun (F := Ideal) c (V m c main_v0) (V m c main_v1) (V m c main_arg2) (V m c main_v2) (V m c main_v3) (V m c main_v4_0) (V m c main_v4_1) (V m c main_v4_2) s0 s1 s2 s3 s4 s5 s6 s7 s8 s9).1.2.1 := (G_c m c).trans (congrArg (fun p => p.2.1) e).symm
  have e7 : G m c main_v4_2 = (kernelRun (F := Ideal) c (V m c main_v0) (V m c main_v1) (V m c main_arg2) (V m c main_v2) (V m c main_v3) (V m c main_v4_0) (V m c main_v4_1) (V m c main_v4_2) s0 s1 s2 s3 s4 s5 s6 s7 s8 s9).1.2.2 := (G_s m c).trans (congrArg (fun p => p.2.2) e).symm
  rw [e5, e6, e7]
  iapply ((kernelRun (F := Ideal) c (V m c main_v0) (V m c main_v1) (V m c main_arg2) (V m c main_v2) (V m c main_v3) (V m c main_v4_0) (V m c main_v4_1) (V m c main_v4_2) s0 s1 s2 s3 s4 s5 s6 s7 s8 s9).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  isplitl [D12]; · iexact D12
  isplitl [D13]; · iexact D13
  isplitl [D14]; · iexact D14
  isplitl [D15]; · iexact D15
  isplitl [D16]; · iexact D16
  isplitl [D17]; · iexact D17
  isplitl [D18]; · iexact D18
  isplitl [D19]; · iexact D19
  isplitl [D20]; · iexact D20
  isplitl [D21]; · iexact D21
  isplitl [HW]; · iexact HW
  iintro ⟨H0, H1, H2, H3, H4, H5, H6, H7, ⟨%e0, S0⟩, ⟨%e1, S1⟩, ⟨%e2, S2⟩, ⟨%e3, S3⟩, ⟨%e4, S4⟩, ⟨%e5, S5⟩, ⟨%e6, S6⟩, ⟨%e7, S7⟩, ⟨%e8, S8⟩, ⟨%e9, S9⟩, D0, D1, D2, D3, D4, D5, D6, D7, D8, D9, D10, D11, D12, D13, D14, D15, D16, D17, D18, D19, D20, D21, ⟨%W', HW⟩⟩
  isplitl [S0 S1 S2 S3 S4 S5 S6 S7 S8 S9 D0 D1 D2 D3 D4 D5 D6 D7 D8 D9 D10 D11 D12 D13 D14 D15 D16 D17 D18 D19 D20 D21 H0 H1 H2 H3 H4 H5 H6 H7]
  · isplitl [S0 S1 S2 S3 S4 S5 S6 S7 S8 S9]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      isplitl [S8]; · iexists _; iexact S8
      iexists _; iexact S9
    isplitl [D0 D1 D2 D3 D4 D5 D6 D7 D8 D9 D10 D11 D12 D13 D14 D15 D16 D17 D18 D19 D20 D21]
    · isplitl [D0]; · iexact D0
      isplitl [D1]; · iexact D1
      isplitl [D2]; · iexact D2
      isplitl [D3]; · iexact D3
      isplitl [D4]; · iexact D4
      isplitl [D5]; · iexact D5
      isplitl [D6]; · iexact D6
      isplitl [D7]; · iexact D7
      isplitl [D8]; · iexact D8
      isplitl [D9]; · iexact D9
      isplitl [D10]; · iexact D10
      isplitl [D11]; · iexact D11
      isplitl [D12]; · iexact D12
      isplitl [D13]; · iexact D13
      isplitl [D14]; · iexact D14
      isplitl [D15]; · iexact D15
      isplitl [D16]; · iexact D16
      isplitl [D17]; · iexact D17
      isplitl [D18]; · iexact D18
      isplitl [D19]; · iexact D19
      isplitl [D20]; · iexact D20
      iexact D21
    isplitl [H0 H1 H2 H3 H4]
    · isplitl [H0]; · iexact H0
      isplitl [H1]; · iexact H1
      isplitl [H2]; · iexact H2
      isplitl [H3]; · iexact H3
      iexact H4
    isplitl [H5]; · iexact H5
    isplitl [H6]; · iexact H6
    iexact H7
  iexists W'; isplitr; · ipureintro; exact fun _ _ => Or.inl trivial
  iexact HW

theorem body_obligationV (c : Dev nD) : BodyObligation (datsV m 0 c) (defs₀ (F := Ideal)) Variants.none () Set.univ := fun t => by
  rw [defs₀_row]
  refine triple_restated (sound_bodyV m c t) rfl ?_ fun _ => ?_
  · iintro ⟨HΦ, HO, -⟩
    isplitl [HΦ]; · iexact HΦ
    iexact HO
  · iintro ⟨HΦ, HO⟩
    isplitl [HΦ]; · iexact HΦ
    isplitl [HO]; · iexact HO
    rw [Finset.univ_eq_empty (α := Fin cfg0.W), BI.bigSep_empty]
    iempintro

set_option backward.isDefEq.respectTransparency.types false in
/-- The whole program runs; every buffer ends as the host lines after the kernel leave it, from the results as the kernel leaves them. -/
theorem run_mainV : θ_run defs (onTc (τ := τ) (main (F := Ideal))) (s₀ m ρ) (fun r => ∀ c : Dev nD, ∀ b ∈ Pipeline.restRefs sig cfg0.spec,
      r.2.mem ((c.tc : Thread nD τ).loc b) = StableHlo.after [hostOps1].flatten (Pipeline.withArrays cfg0.spec c (Pipeline.withR (V0 m c) R0 c (G m c)) fun w => (datsV m 0 c).arrAt w cfg0.N) (Proc.devRef .tc b)) :=
  Pipeline.θ_run_frame_dmaR_aroundV (Q' := _) cfgs (datsV m) (0 : Fin 1) launch0 osem0 defs₀ Variants.none ownSemFacts0 H0 R0 H0_sub R0_sub m ρ main
    (hbody := fun c => (body_obligationV m c).loose) (hshare := fun c => (datsV m 0 c).share_full fun _ => rfl)
    (howed := fun _ _ => rfl) (V₀ := V0 m) (opss := [hostOps1]) (hsub := sfx_sub) (hfresh := sfx_fresh) (hkeep := sfx_keeps) (G := G m)
    (hmain := hmainD m Variants.none) (hA := fun _ w => w.elim0)
    (hin := fun c => by rw [PhiV_first m c 0 rfl]) (hout := fun c => by rw [PhiV_last m c (Fin.last _) (by decide)]) (hQ' := fun _ h c => (h.1 c).2)

end Cert.KernelIdeal.Hand

end

end
-- ==== Proof.Ends.lean ====
module

public import proofs.«01_k».proof.Proof.ValI

/-! The three results as functions of the five arguments, in the arguments' own shapes. -/

@[expose] public section

noncomputable section

namespace Cert.KernelIdeal.Hand

open Cert.KernelIdeal Cert.KernelIdeal.Gen
open Idealize.ShloMosaic Idealize.ShloMosaic.TcCoe Idealize.ShloMosaic.Tactic

/-- The activations as a matrix. -/
def aX (a : S1x384x4096.Idx → Elt Ideal .bf16) : XT := shapeCast S384x4096 a shapeCasts_S1x384x4096_S384x4096
/-- The smoothing factors as a row. -/
def aS (a : S4096.Idx → Elt Ideal .f32) : ST := shapeCast S1x4096 a shapeCasts_S4096_S1x4096
/-- The weight scales as a row. -/
def aW (a : S5504.Idx → Elt Ideal .f32) : WST := shapeCast S1x5504 a shapeCasts_S5504_S1x5504
/-- The residual as a matrix. -/
def aR (a : S1x384x5504.Idx → Elt Ideal .bf16) : RT := shapeCast S384x5504 a shapeCasts_S1x384x5504_S384x5504

/-- The first result. -/
def oY (a0 : S1x384x4096.Idx → Elt Ideal .bf16) (a1 : S4096.Idx → Elt Ideal .f32) (a2 : WT) (a3 : S5504.Idx → Elt Ideal .f32)
    (a4 : S1x384x5504.Idx → Elt Ideal .bf16) : S1x384x5504.Idx → Elt Ideal .bf16 :=
  shapeCast S1x384x5504 (gY (aX a0) (aS a1) a2 (aW a3) (aR a4)) shapeCasts_S384x5504_S1x384x5504
/-- The codes. -/
def oC (a0 : S1x384x4096.Idx → Elt Ideal .bf16) (a1 : S4096.Idx → Elt Ideal .f32) : S1x384x4096.Idx → Elt Ideal .i8 :=
  shapeCast S1x384x4096 (gC (aX a0) (aS a1)) shapeCasts_S384x4096_S1x384x4096
/-- The scales. -/
def oS (a0 : S1x384x4096.Idx → Elt Ideal .bf16) (a1 : S4096.Idx → Elt Ideal .f32) : S1x384x1.Idx → Elt Ideal .f32 :=
  fun j => Codes.scale (xrow (aX a0) (j 1)) (srow (aS a1))

/-- The row of scales, reshaped, is the scales. -/
theorem oS_of_row (X : XT) (s : ST) (h : S1x384.ShapeCasts S1x384x1) :
    shapeCast S1x384x1 (gR X s) h = fun j => Codes.scale (xrow X (j 1)) (srow s) := by
  funext j
  refine (shapeCast_apply (gR X s) h j (ix2 0 (j 1)) ?_).trans rfl
  have h0 : (j 0).val < 1 := (j 0).isLt
  have h2 : (j 2).val < 1 := (j 2).isLt
  rw [Shape.rowMajor_val_two, Shape.rowMajor_val_three]
  show 0 * 384 + (j 1).val = ((j 0).val * 384 + (j 1).val) * 1 + (j 2).val
  omega

end Cert.KernelIdeal.Hand

end

end
-- ==== Proof.EndV.lean ====
module

public import proofs.«01_k».proof.Proof.RunV
public import proofs.«01_k».proof.Proof.Ends

/-! The kernel's program at the ideal values: its results as functions of its arguments. -/

@[expose] public section

noncomputable section

namespace Cert.KernelIdeal.Hand

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

theorem V_v0 (c : Dev nD) : V m c main_v0 = aX (m ((c : Thread nD τ).loc main_arg0)) := by
  show StableHlo.after hostOps0 (fun b => m (c, b)) (Proc.devRef .tc main_v0) = _
  simp (disch := decide) only [hostOps0, StableHlo.after_cons, StableHlo.after_nil, StableHlo.reshape_result', StableHlo.reshape_result_ne']
  rfl
theorem V_v1 (c : Dev nD) : V m c main_v1 = aS (m ((c : Thread nD τ).loc main_arg1)) := by
  show StableHlo.after hostOps0 (fun b => m (c, b)) (Proc.devRef .tc main_v1) = _
  simp (disch := decide) only [hostOps0, StableHlo.after_cons, StableHlo.after_nil, StableHlo.reshape_result', StableHlo.reshape_result_ne']
  rfl
theorem V_v2 (c : Dev nD) : V m c main_v2 = aW (m ((c : Thread nD τ).loc main_arg3)) := by
  show StableHlo.after hostOps0 (fun b => m (c, b)) (Proc.devRef .tc main_v2) = _
  simp (disch := decide) only [hostOps0, StableHlo.after_cons, StableHlo.after_nil, StableHlo.reshape_result', StableHlo.reshape_result_ne']
  rfl
theorem V_v3 (c : Dev nD) : V m c main_v3 = aR (m ((c : Thread nD τ).loc main_arg4)) := by
  show StableHlo.after hostOps0 (fun b => m (c, b)) (Proc.devRef .tc main_v3) = _
  simp (disch := decide) only [hostOps0, StableHlo.after_cons, StableHlo.after_nil, StableHlo.reshape_result', StableHlo.reshape_result_ne']
  rfl

/-- The contents the host lines after the kernel start from. -/
abbrev U (c : Dev nD) : Valuation τ sig (Elt Ideal) := Pipeline.withArrays cfg0.spec c (Pipeline.withR (V0 m c) R0 c (G m c)) fun w => (datsV m 0 c).arrAt w cfg0.N

theorem U_res (c : Dev nD) (b : Ref sig .tc) (hb : b ∈ R0) : U m c (Proc.devRef .tc b) = G m c b :=
  (Pipeline.withArrays_of_ne _ c _ _ b (fun w => w.elim0)).trans (Pipeline.withR_of_mem _ _ _ _ b hb)
theorem U_rest (c : Dev nD) (b : Ref sig .tc) (hb : b ∉ R0) : U m c (Proc.devRef .tc b) = V m c b :=
  (Pipeline.withArrays_of_ne _ c _ _ b (fun w => w.elim0)).trans (Pipeline.withR_of_not_mem _ _ _ _ b hb)

/-- The three reshaped results. -/
theorem end_y (c : Dev nD) : StableHlo.after [hostOps1].flatten (U m c) (Proc.devRef .tc main_v5)
    = oY (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (U m c) (Proc.devRef .tc main_v5) = _
  generalize hU : U m c = A
  simp (disch := decide) only [hostOps1, StableHlo.after_cons, StableHlo.after_nil, StableHlo.reshape_result', StableHlo.reshape_result_ne']
  have h : A (Proc.devRef .tc main_v4_0) = gY (aX (m ((c : Thread nD τ).loc main_arg0))) (aS (m ((c : Thread nD τ).loc main_arg1))) (m ((c : Thread nD τ).loc main_arg2)) (aW (m ((c : Thread nD τ).loc main_arg3))) (aR (m ((c : Thread nD τ).loc main_arg4))) := by
    rw [← hU, U_res m c main_v4_0 (by decide), G_y, V_v0, V_v1, V_v2, V_v3, V_main_arg2]
  rw [h]
  rfl
theorem end_c (c : Dev nD) : StableHlo.after [hostOps1].flatten (U m c) (Proc.devRef .tc main_v6)
    = oC (m ((c : Thread nD τ).loc main_arg0)) (m ((c : Thread nD τ).loc main_arg1)) := by
  show StableHlo.after hostOps1 (U m c) (Proc.devRef .tc main_v6) = _
  generalize hU : U m c = A
  simp (disch := decide) only [hostOps1, StableHlo.after_cons, StableHlo.after_nil, StableHlo.reshape_result', StableHlo.reshape_result_ne']
  have h : A (Proc.devRef .tc main_v4_1) = gC (aX (m ((c : Thread nD τ).loc main_arg0))) (aS (m ((c : Thread nD τ).loc main_arg1))) := by
    rw [← hU, U_res m c main_v4_1 (by decide), G_c, V_v0, V_v1]
  rw [h]
  rfl
theorem end_s (c : Dev nD) : StableHlo.after [hostOps1].flatten (U m c) (Proc.devRef .tc main_v7)
    = oS (m ((c : Thread nD τ).loc main_arg0)) (m ((c : Thread nD τ).loc main_arg1)) := by
  show StableHlo.after hostOps1 (U m c) (Proc.devRef .tc main_v7) = _
  generalize hU : U m c = A
  simp (disch := decide) only [hostOps1, StableHlo.after_cons, StableHlo.after_nil, StableHlo.reshape_result', StableHlo.reshape_result_ne']
  have h : A (Proc.devRef .tc main_v4_2) = gR (aX (m ((c : Thread nD τ).loc main_arg0))) (aS (m ((c : Thread nD τ).loc main_arg1))) := by
    rw [← hU, U_res m c main_v4_2 (by decide), G_s, V_v0, V_v1]
  rw [h]
  exact oS_of_row _ _ shapeCasts_S1x384_S1x384x1
/-- The host lines after the kernel leave every other buffer. -/
theorem end_rest (c : Dev nD) (b : Ref sig .tc) (hT : b ∉ T0) (hR : b ∉ R0) : StableHlo.after [hostOps1].flatten (U m c) (Proc.devRef .tc b) = V m c b := by
  rw [StableHlo.after_of_forall_not_mem (b := Proc.devRef .tc b) _ _ (fun op hop hb => hT (by
    obtain ⟨l, hl, ho⟩ := List.mem_flatten.mp hop
    exact sfx_writes l hl op ho b hb))]
  exact U_rest m c b hR

/-- The program's results and arguments when it ends. -/
theorem value : θ_run defs (onTc (τ := τ) (main (F := Ideal))) ⟨m, fun _ => 0, ρ⟩ (fun r => ∀ c : Dev nD,
      r.2.mem ((c.tc : Thread nD τ).loc main_v5) = oY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6) = oC (m ((c.tc : Thread nD τ).loc main_arg0)) (m ((c.tc : Thread nD τ).loc main_arg1))
      ∧ r.2.mem ((c.tc : Thread nD τ).loc main_v7) = oS (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c main_v5 (Pipeline.mem_restRefs_of main_v5 (by decide) (by decide))).trans (end_y m c),
     (h c main_v6 (Pipeline.mem_restRefs_of main_v6 (by decide) (by decide))).trans (end_c m c),
     (h c main_v7 (Pipeline.mem_restRefs_of main_v7 (by decide) (by decide))).trans (end_s m c),
     ((h c main_arg0 (Pipeline.mem_restRefs_of main_arg0 (by decide) (by decide))).trans (end_rest m c main_arg0 (by decide) (by decide))).trans (V_main_arg0 m c),
     ((h c main_arg1 (Pipeline.mem_restRefs_of main_arg1 (by decide) (by decide))).trans (end_rest m c main_arg1 (by decide) (by decide))).trans (V_main_arg1 m c),
     ((h c main_arg2 (Pipeline.mem_restRefs_of main_arg2 (by decide) (by decide))).trans (end_rest m c main_arg2 (by decide) (by decide))).trans (V_main_arg2 m c),
     ((h c main_arg3 (Pipeline.mem_restRefs_of main_arg3 (by decide) (by decide))).trans (end_rest m c main_arg3 (by decide) (by decide))).trans (V_main_arg3 m c),
     ((h c main_arg4 (Pipeline.mem_restRefs_of main_arg4 (by decide) (by decide))).trans (end_rest m c main_arg4 (by decide) (by decide))).trans (V_main_arg4 m c)⟩)
    (run_mainV m ρ)

end Cert.KernelIdeal.Hand

end

end
-- ==== Proof.PayR.lean ====
module

public import proofs.«01_k».proof.Proof.Gen.ReferenceIdeal.Skeleton
public import proofs.«01_k».proof.Proof.Codes

/-! What the reference's vector expressions hold, element by element. -/

@[expose] public section

set_option maxRecDepth 16384

noncomputable section

namespace Cert.ReferenceIdeal.Hand

open Cert.ReferenceIdeal Cert.ReferenceIdeal.Gen
open Idealize.ShloMosaic

/-- The reference's scales. -/
theorem scale_at (x : Vec Ideal S384x4096 .bf16) (s : Vec Ideal S1x4096 .f32) (i : Fin 384) (z : Fin 1) :
    k0_pay3 (F := Ideal) x s (ix2 i z) = Codes.scale (fun k => x (ix2 i k)) (fun k => s (ix2 0 k)) := by
  pointwise [k0_pay3, k0_pay2, Codes.scale, Codes.rowMax]
  rfl

/-- The reference's codes. -/
theorem codes_at (x : Vec Ideal S384x4096 .bf16) (s : Vec Ideal S1x4096 .f32) (i : Fin 384) (k : Fin 4096) :
    k0_pay4 (F := Ideal) x s (ix2 i k) = Codes.code8 (fun k => x (ix2 i k)) (fun k => s (ix2 0 k)) k := by
  rw [← Codes.code8_of_8]
  pointwise [k0_pay4, k0_pay3, k0_pay2, Codes.rnd, Codes.clip, Codes.quo, Codes.scale, Codes.rowMax]
  simp only [Codes.ofBits_127, Codes.ofBits_neg127]
  rfl

end Cert.ReferenceIdeal.Hand

end

end
-- ==== Proof.PayR2.lean ====
module

public import proofs.«01_k».proof.Proof.Gen.ReferenceIdeal.Skeleton
public import proofs.«01_k».proof.Proof.PayR

/-! What the reference's vector expressions hold, element by element. -/

@[expose] public section

set_option maxRecDepth 16384

noncomputable section

namespace Cert.ReferenceIdeal.Hand

open Cert.ReferenceIdeal Cert.ReferenceIdeal.Gen
open Idealize.ShloMosaic

/-- The reference's result. -/
theorem y_at (x : Vec Ideal S384x4096 .bf16) (s : Vec Ideal S1x4096 .f32) (w : Vec Ideal S4096x5504 .i8) (ws : Vec Ideal S1x5504 .f32)
    (r : Vec Ideal S384x5504 .bf16) (i : Fin 384) (n : Fin 5504) :
    k0_pay1 (F := Ideal) (k0_pay5 x s w ws) (k0_pay6 r) (ix2 i n)
      = Codes.yv (fun k => x (ix2 i k)) (fun k => s (ix2 0 k)) (fun k => w (ix2 k n)) (ws (ix2 0 n)) (r (ix2 i n)) := by
  unfold Codes.yv Codes.acc
  simp only [← codes_at, ← scale_at x s i 0]
  pointwise [k0_pay1, k0_pay5, k0_pay6]
  rfl

end Cert.ReferenceIdeal.Hand

end

end
-- ==== Proof.RefV.lean ====
module

public import proofs.«01_k».proof.Proof.Ends
public import proofs.«01_k».proof.Proof.PayR2
public import proofs.«01_k».proof.Proof.Gen.ReferenceIdeal.Frame
public import Idealize.ShloMosaic.Lib.Pipeline.ValueKit

/-! The reference's program at the ideal values: its results are the same functions of its arguments. -/

@[expose] public section

set_option maxRecDepth 16384

noncomputable section

namespace Cert.ReferenceIdeal.Hand

open Cert.ReferenceIdeal Cert.ReferenceIdeal.Gen
open Cert.KernelIdeal.Hand (aX aS aW aR oY oC oS gY gC xrow srow)
open Idealize.ShloMosaic Idealize.ShloMosaic.TcCoe Idealize.ShloMosaic.Tactic
open Idealize.SL.Sem

variable (m : (ℓ : Loc nD τ sig) → Buf (Elt Ideal) ℓ) (ρ : Dev nD → PrngReg)

theorem V_v0 (c : Dev nD) : V m c main_v0 = aX (m ((c : Thread nD τ).loc main_arg0)) := by
  show StableHlo.after hostOps0 (fun b => m (c, b)) (Proc.devRef .tc main_v0) = _
  simp (disch := decide) only [hostOps0, StableHlo.after_cons, StableHlo.after_nil, StableHlo.reshape_result', StableHlo.reshape_result_ne']
  rfl
theorem V_v1 (c : Dev nD) : V m c main_v1 = aS (m ((c : Thread nD τ).loc main_arg1)) := by
  show StableHlo.after hostOps0 (fun b => m (c, b)) (Proc.devRef .tc main_v1) = _
  simp (disch := decide) only [hostOps0, StableHlo.after_cons, StableHlo.after_nil, StableHlo.reshape_result', StableHlo.reshape_result_ne']
  rfl
theorem V_v2 (c : Dev nD) : V m c main_v2 = aW (m ((c : Thread nD τ).loc main_arg3)) := by
  show StableHlo.after hostOps0 (fun b => m (c, b)) (Proc.devRef .tc main_v2) = _
  simp (disch := decide) only [hostOps0, StableHlo.after_cons, StableHlo.after_nil, StableHlo.reshape_result', StableHlo.reshape_result_ne']
  rfl
theorem V_v3 (c : Dev nD) : V m c main_v3 = aR (m ((c : Thread nD τ).loc main_arg4)) := by
  show StableHlo.after hostOps0 (fun b => m (c, b)) (Proc.devRef .tc main_v3) = _
  simp (disch := decide) only [hostOps0, StableHlo.after_cons, StableHlo.after_nil, StableHlo.reshape_result', StableHlo.reshape_result_ne']
  rfl

/-- What the body stores in the first result. -/
theorem o5 (x : Vec Ideal S384x4096 .bf16) (s : Vec Ideal S1x4096 .f32) (w : Vec Ideal S4096x5504 .i8) (ws : Vec Ideal S1x5504 .f32) (r : Vec Ideal S384x5504 .bf16) :
    out0_5 x s w ws r = gY x s w ws r := by
  unfold out0_5
  simp (disch := decide) only [View.canon_cons_unit_lit', View.ld_unit_lit']
  funext y
  obtain ⟨i, n, rfl⟩ : ∃ (i : Fin 384) (n : Fin 5504), y = ix2 i n := ⟨y 0, y 1, by funext a; fin_cases a <;> rfl⟩
  exact y_at x s w ws r i n
/-- What the body stores in the codes. -/
theorem o6 (x : Vec Ideal S384x4096 .bf16) (s : Vec Ideal S1x4096 .f32) (w : Vec Ideal S4096x5504 .i8) (ws : Vec Ideal S1x5504 .f32) (r : Vec Ideal S384x5504 .bf16) :
    out0_6 x s w ws r = gC x s := by
  unfold out0_6
  simp (disch := decide) only [View.canon_cons_unit_lit', View.ld_unit_lit']
  funext y
  obtain ⟨i, n, rfl⟩ : ∃ (i : Fin 384) (n : Fin 4096), y = ix2 i n := ⟨y 0, y 1, by funext a; fin_cases a <;> rfl⟩
  exact codes_at x s i n
/-- The scales in one column. -/
def gK (x : Vec Ideal S384x4096 .bf16) (s : Vec Ideal S1x4096 .f32) : S384x1.Idx → Elt Ideal .f32 := fun y => Codes.scale (xrow x (y 0)) (srow s)
/-- What the body stores in the scales. -/
theorem o7 (x : Vec Ideal S384x4096 .bf16) (s : Vec Ideal S1x4096 .f32) (w : Vec Ideal S4096x5504 .i8) (ws : Vec Ideal S1x5504 .f32) (r : Vec Ideal S384x5504 .bf16) :
    out0_7 x s w ws r = gK x s := by
  unfold out0_7
  simp (disch := decide) only [View.canon_cons_unit_lit', View.ld_unit_lit']
  funext y
  obtain ⟨i, n, rfl⟩ : ∃ (i : Fin 384) (n : Fin 1), y = ix2 i n := ⟨y 0, y 1, by funext a; fin_cases a <;> rfl⟩
  exact scale_at x s i n
/-- The column of scales, reshaped, is the scales. -/
theorem oS_of_col (x : Vec Ideal S384x4096 .bf16) (s : Vec Ideal S1x4096 .f32) (h : S384x1.ShapeCasts S1x384x1) :
    shapeCast S1x384x1 (gK x s) h = fun j => Codes.scale (xrow x (j 1)) (srow s) := by
  funext j
  refine (shapeCast_apply (gK x s) h j (ix2 (j 1) 0) ?_).trans rfl
  have h0 : (j 0).val < 1 := (j 0).isLt
  have h2 : (j 2).val < 1 := (j 2).isLt
  rw [Shape.rowMajor_val_two, Shape.rowMajor_val_three]
  show (j 1).val * 1 + 0 = ((j 0).val * 384 + (j 1).val) * 1 + (j 2).val
  omega

/-- The staged inputs are the arrays. -/
theorem b0 (c : Dev nD) (t : Fin cfg0.N) : iblk m c 0 t = aX (m ((c : Thread nD τ).loc main_arg0)) := by
  rw [← V_v0]; funext y; unfold iblk; rw [View.read_apply]; generalize V m c = A
  refine congrArg (A main_v0) ?_
  funext a; apply Fin.ext; fin_cases a <;> · blk_simp; first | rfl | exact Nat.zero_add _
theorem b1 (c : Dev nD) (t : Fin cfg0.N) : iblk m c 1 t = aS (m ((c : Thread nD τ).loc main_arg1)) := by
  rw [← V_v1]; funext y; unfold iblk; rw [View.read_apply]; generalize V m c = A
  refine congrArg (A main_v1) ?_
  funext a; apply Fin.ext; fin_cases a <;> · blk_simp; first | rfl | exact Nat.zero_add _
theorem b2 (c : Dev nD) (t : Fin cfg0.N) : iblk m c 2 t = m ((c : Thread nD τ).loc main_arg2) := by
  rw [← V_main_arg2 m c]; funext y; unfold iblk; rw [View.read_apply]; generalize V m c = A
  refine congrArg (A main_arg2) ?_
  funext a; apply Fin.ext; fin_cases a <;> · blk_simp; first | rfl | exact Nat.zero_add _
theorem b3 (c : Dev nD) (t : Fin cfg0.N) : iblk m c 3 t = aW (m ((c : Thread nD τ).loc main_arg3)) := by
  rw [← V_v2]; funext y; unfold iblk; rw [View.read_apply]; generalize V m c = A
  refine congrArg (A main_v2) ?_
  funext a; apply Fin.ext; fin_cases a <;> · blk_simp; first | rfl | exact Nat.zero_add _
theorem b4 (c : Dev nD) (t : Fin cfg0.N) : iblk m c 4 t = aR (m ((c : Thread nD τ).loc main_arg4)) := by
  rw [← V_v3]; funext y; unfold iblk; rw [View.read_apply]; generalize V m c = A
  refine congrArg (A main_v3) ?_
  funext a; apply Fin.ext; fin_cases a <;> · blk_simp; first | rfl | exact Nat.zero_add _

/-- The one point. -/
abbrev t0 : Fin cfg0.N := ⟨0, by decide⟩

/-- The three result arrays after the kernel. -/
theorem arr5 (c : Dev nD) : (dats m 0 c).arrAt 5 cfg0.N
    = gY (aX (m ((c : Thread nD τ).loc main_arg0))) (aS (m ((c : Thread nD τ).loc main_arg1))) (m ((c : Thread nD τ).loc main_arg2)) (aW (m ((c : Thread nD τ).loc main_arg3))) (aR (m ((c : Thread nD τ).loc main_arg4))) := by
  refine (dats m 0 c).arrAt_eq_of_after_last 5 t0 (by decide +kernel) _ fun j => ?_
  rw [after0_5, o5, b0, b1, b2, b3, b4]
  rfl
theorem arr6 (c : Dev nD) : (dats m 0 c).arrAt 6 cfg0.N = gC (aX (m ((c : Thread nD τ).loc main_arg0))) (aS (m ((c : Thread nD τ).loc main_arg1))) := by
  refine (dats m 0 c).arrAt_eq_of_after_last 6 t0 (by decide +kernel) _ fun j => ?_
  rw [after0_6, o6, b0, b1]
  rfl
theorem arr7 (c : Dev nD) : (dats m 0 c).arrAt 7 cfg0.N = gK (aX (m ((c : Thread nD τ).loc main_arg0))) (aS (m ((c : Thread nD τ).loc main_arg1))) := by
  refine (dats m 0 c).arrAt_eq_of_after_last 7 t0 (by decide +kernel) _ fun j => ?_
  rw [after0_7, o7, b0, b1]
  rfl

/-- The contents the host lines after the kernel start from. -/
abbrev U (c : Dev nD) : Valuation τ sig (Elt Ideal) := Pipeline.withArrays spec0 c (V0 m c) fun w => (dats m 0 c).arrAt w cfg0.N
theorem U_arr (c : Dev nD) (w : Fin 8) : U m c (Proc.devRef .tc (Pipeline.arrRef spec0 w)) = (dats m 0 c).arrAt w cfg0.N :=
  Pipeline.withArrays_arr spec0 (by decide) c _ _ w

/-- The three reshaped results. -/
theorem end_y (c : Dev nD) : Pipeline.afterTail₀ cfgs (dats m) 0 (V0 m) [hostOps1] c main_v5
    = oY (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (U m c) (Proc.devRef .tc main_v5) = _
  have h := (U_arr m c 5).trans (arr5 m c)
  generalize U m c = A at h ⊢
  simp (disch := decide) only [hostOps1, StableHlo.after_cons, StableHlo.after_nil, StableHlo.reshape_result', StableHlo.reshape_result_ne']
  have h' : A (Proc.devRef .tc main_v4_0) = _ := h
  rw [h']
  rfl
theorem end_c (c : Dev nD) : Pipeline.afterTail₀ cfgs (dats m) 0 (V0 m) [hostOps1] c main_v6
    = oC (m ((c : Thread nD τ).loc main_arg0)) (m ((c : Thread nD τ).loc main_arg1)) := by
  show StableHlo.after hostOps1 (U m c) (Proc.devRef .tc main_v6) = _
  have h := (U_arr m c 6).trans (arr6 m c)
  generalize U m c = A at h ⊢
  simp (disch := decide) only [hostOps1, StableHlo.after_cons, StableHlo.after_nil, StableHlo.reshape_result', StableHlo.reshape_result_ne']
  have h' : A (Proc.devRef .tc main_v4_1) = _ := h
  rw [h']
  rfl
theorem end_s (c : Dev nD) : Pipeline.afterTail₀ cfgs (dats m) 0 (V0 m) [hostOps1] c main_v7
    = oS (m ((c : Thread nD τ).loc main_arg0)) (m ((c : Thread nD τ).loc main_arg1)) := by
  show StableHlo.after hostOps1 (U m c) (Proc.devRef .tc main_v7) = _
  have h := (U_arr m c 7).trans (arr7 m c)
  generalize U m c = A at h ⊢
  simp (disch := decide) only [hostOps1, StableHlo.after_cons, StableHlo.after_nil, StableHlo.reshape_result', StableHlo.reshape_result_ne']
  have h' : A (Proc.devRef .tc main_v4_2) = _ := h
  rw [h']
  exact oS_of_col _ _ shapeCasts_S384x1_S1x384x1

/-- The program's results and arguments when it ends. -/
theorem value : θ_run defs (onTc (τ := τ) (main (F := Ideal))) ⟨m, fun _ => 0, ρ⟩ (fun r => ∀ c : Dev nD,
      r.2.mem ((c.tc : Thread nD τ).loc main_v5) = oY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v6) = oC (m ((c.tc : Thread nD τ).loc main_arg0)) (m ((c.tc : Thread nD τ).loc main_arg1))
      ∧ r.2.mem ((c.tc : Thread nD τ).loc main_v7) = oS (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h.1 c).2 main_v5 (Pipeline.mem_restRefs_of main_v5 (by decide) (by decide))).trans (end_y m c),
     ((h.1 c).2 main_v6 (Pipeline.mem_restRefs_of main_v6 (by decide) (by decide))).trans (end_c m c),
     ((h.1 c).2 main_v7 (Pipeline.mem_restRefs_of main_v7 (by decide) (by decide))).trans (end_s m c),
     h.2 c⟩)
    (θ_run_and (run_main m ρ) (unchanged m ρ))

end Cert.ReferenceIdeal.Hand

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.RunI
public import proofs.«01_k».proof.Proof.EndV
public import proofs.«01_k».proof.Proof.RefV
public import Idealize.ShloMosaic.Adequacy
public import Idealize.ShloMosaic.Init

@[expose] public section

noncomputable section

namespace Cert.Proof

open Idealize.ShloMosaic Idealize.SL.Sem Cert.Kernel

/-- The three results of the idealized kernel and of the idealized reference are the same functions of the same arguments. -/
theorem algebraic : Cert.algebraic_KernelIdeal_ReferenceIdeal := by
  intro m g m' g' _ hm
  refine ⟨fun c => Cert.KernelIdeal.Hand.oY (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.KernelIdeal.Hand.oC (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.KernelIdeal.Hand.oS (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Hand.value m g, ?_⟩
  refine (θ_run _ _ _).mono (fun r h c => ?_) (Cert.ReferenceIdeal.Hand.value m' g')
  obtain ⟨h0, h1, h2, h3, h4⟩ := hm c
  obtain ⟨y5, y6, y7, ha⟩ := h c
  rw [h0, h1, h2, h3, h4] at y5
  rw [h0, h1] at y6 y7
  exact ⟨y5, y6, y7, ha⟩

/-- The three frames, the idealization preserved, and the results. -/
theorem claim : Cert.Claim := ⟨Cert.Kernel.Gen.facts, Cert.KernelIdeal.Gen.facts, Cert.ReferenceIdeal.Gen.facts, fun m g _ => Cert.Kernel.Hand.frame m g, fun m g _ => Cert.KernelIdeal.Hand.frame m g, fun m g _ => Cert.ReferenceIdeal.Gen.frame m g, trivial, algebraic⟩

end Cert.Proof

end
